-- ==== Defs.lean ====
def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_DyScale (m : (ℓ : Loc Cert.DyScale.nD Cert.DyScale.τ Cert.DyScale.sig) → Buf (Elt Bits) ℓ) : Prop :=
  True

def Pre_DyScaleIdeal (m : (ℓ : Loc Cert.DyScaleIdeal.nD Cert.DyScaleIdeal.τ Cert.DyScaleIdeal.sig) → Buf (Elt Ideal) ℓ) : Prop :=
  True

def Pre_DyScaleRefIdeal (m : (ℓ : Loc Cert.DyScaleRefIdeal.nD Cert.DyScaleRefIdeal.τ Cert.DyScaleRefIdeal.sig) → Buf (Elt Ideal) ℓ) : Prop :=
  True

def Pre_XScale (m : (ℓ : Loc Cert.XScale.nD Cert.XScale.τ Cert.XScale.sig) → Buf (Elt Bits) ℓ) : Prop :=
  True

def Pre_XScaleIdeal (m : (ℓ : Loc Cert.XScaleIdeal.nD Cert.XScaleIdeal.τ Cert.XScaleIdeal.sig) → Buf (Elt Ideal) ℓ) : Prop :=
  True

def Pre_XScaleRefIdeal (m : (ℓ : Loc Cert.XScaleRefIdeal.nD Cert.XScaleRefIdeal.τ Cert.XScaleRefIdeal.sig) → Buf (Elt Ideal) ℓ) : Prop :=
  True

def Pre_QuantSr (m : (ℓ : Loc Cert.QuantSr.nD Cert.QuantSr.τ Cert.QuantSr.sig) → Buf (Elt Bits) ℓ) : Prop :=
  True

def Pre_QuantRn (m : (ℓ : Loc Cert.QuantRn.nD Cert.QuantRn.τ Cert.QuantRn.sig) → Buf (Elt Bits) ℓ) : Prop :=
  True

def Pre_XBlk (m : (ℓ : Loc Cert.XBlk.nD Cert.XBlk.τ Cert.XBlk.sig) → Buf (Elt Bits) ℓ) : Prop :=
  True

def Pre_XBlkIdeal (m : (ℓ : Loc Cert.XBlkIdeal.nD Cert.XBlkIdeal.τ Cert.XBlkIdeal.sig) → Buf (Elt Ideal) ℓ) : Prop :=
  True

def Pre_XBlkIdeal_x_scale_positive [hPre_x_scale_positive : Cert.Pre_x_scale_positive.Facts] (m : (ℓ : Loc Cert.XBlkIdeal.nD Cert.XBlkIdeal.τ Cert.XBlkIdeal.sig) → Buf (Elt Ideal) ℓ) : Prop :=
  ∀ c : Dev Cert.XBlkIdeal.nD,
    (Cert.Pre_x_scale_positive.fn (F := Ideal) (m ((c.tc : Thread Cert.XBlkIdeal.nD Cert.XBlkIdeal.τ).loc Cert.XBlkIdeal.main_arg0)) (m ((c.tc : Thread Cert.XBlkIdeal.nD Cert.XBlkIdeal.τ).loc Cert.XBlkIdeal.main_arg1)) (m ((c.tc : Thread Cert.XBlkIdeal.nD Cert.XBlkIdeal.τ).loc Cert.XBlkIdeal.main_arg2))) = (fun _ => 1#1)

def Pre_XBlkRefIdeal (m : (ℓ : Loc Cert.XBlkRefIdeal.nD Cert.XBlkRefIdeal.τ Cert.XBlkRefIdeal.sig) → Buf (Elt Ideal) ℓ) : Prop :=
  True

def Pre_XBlkRefIdeal_x_scale_positive [hPre_x_scale_positive : Cert.Pre_x_scale_positive.Facts] (m : (ℓ : Loc Cert.XBlkRefIdeal.nD Cert.XBlkRefIdeal.τ Cert.XBlkRefIdeal.sig) → Buf (Elt Ideal) ℓ) : Prop :=
  ∀ c : Dev Cert.XBlkRefIdeal.nD,
    (Cert.Pre_x_scale_positive.fn (F := Ideal) (m ((c.tc : Thread Cert.XBlkRefIdeal.nD Cert.XBlkRefIdeal.τ).loc Cert.XBlkRefIdeal.main_arg0)) (m ((c.tc : Thread Cert.XBlkRefIdeal.nD Cert.XBlkRefIdeal.τ).loc Cert.XBlkRefIdeal.main_arg1)) (m ((c.tc : Thread Cert.XBlkRefIdeal.nD Cert.XBlkRefIdeal.τ).loc Cert.XBlkRefIdeal.main_arg2))) = (fun _ => 1#1)

def Pre_DyBlk (m : (ℓ : Loc Cert.DyBlk.nD Cert.DyBlk.τ Cert.DyBlk.sig) → Buf (Elt Bits) ℓ) : Prop :=
  True

def Pre_DyBlkIdeal (m : (ℓ : Loc Cert.DyBlkIdeal.nD Cert.DyBlkIdeal.τ Cert.DyBlkIdeal.sig) → Buf (Elt Ideal) ℓ) : Prop :=
  True

def Pre_DyBlkIdeal_dy_scale_positive [hPre_dy_scale_positive : Cert.Pre_dy_scale_positive.Facts] (m : (ℓ : Loc Cert.DyBlkIdeal.nD Cert.DyBlkIdeal.τ Cert.DyBlkIdeal.sig) → Buf (Elt Ideal) ℓ) : Prop :=
  ∀ c : Dev Cert.DyBlkIdeal.nD,
    (Cert.Pre_dy_scale_positive.fn (F := Ideal) (m ((c.tc : Thread Cert.DyBlkIdeal.nD Cert.DyBlkIdeal.τ).loc Cert.DyBlkIdeal.main_arg0)) (m ((c.tc : Thread Cert.DyBlkIdeal.nD Cert.DyBlkIdeal.τ).loc Cert.DyBlkIdeal.main_arg1)) (m ((c.tc : Thread Cert.DyBlkIdeal.nD Cert.DyBlkIdeal.τ).loc Cert.DyBlkIdeal.main_arg2)) (m ((c.tc : Thread Cert.DyBlkIdeal.nD Cert.DyBlkIdeal.τ).loc Cert.DyBlkIdeal.main_arg3))) = (fun _ => 1#1)

def Pre_DyBlkRefIdeal (m : (ℓ : Loc Cert.DyBlkRefIdeal.nD Cert.DyBlkRefIdeal.τ Cert.DyBlkRefIdeal.sig) → Buf (Elt Ideal) ℓ) : Prop :=
  True

def Pre_DyBlkRefIdeal_dy_scale_positive [hPre_dy_scale_positive : Cert.Pre_dy_scale_positive.Facts] (m : (ℓ : Loc Cert.DyBlkRefIdeal.nD Cert.DyBlkRefIdeal.τ Cert.DyBlkRefIdeal.sig) → Buf (Elt Ideal) ℓ) : Prop :=
  ∀ c : Dev Cert.DyBlkRefIdeal.nD,
    (Cert.Pre_dy_scale_positive.fn (F := Ideal) (m ((c.tc : Thread Cert.DyBlkRefIdeal.nD Cert.DyBlkRefIdeal.τ).loc Cert.DyBlkRefIdeal.main_arg0)) (m ((c.tc : Thread Cert.DyBlkRefIdeal.nD Cert.DyBlkRefIdeal.τ).loc Cert.DyBlkRefIdeal.main_arg1)) (m ((c.tc : Thread Cert.DyBlkRefIdeal.nD Cert.DyBlkRefIdeal.τ).loc Cert.DyBlkRefIdeal.main_arg2)) (m ((c.tc : Thread Cert.DyBlkRefIdeal.nD Cert.DyBlkRefIdeal.τ).loc Cert.DyBlkRefIdeal.main_arg3))) = (fun _ => 1#1)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3))
      ∧ r.2.sem = fun _ => 0)

def quiescent_DyScale [hDyScale : Cert.DyScale.Facts] : Prop :=
  ∀ (m : (ℓ : Loc Cert.DyScale.nD Cert.DyScale.τ Cert.DyScale.sig) → Buf (Elt Bits) ℓ) (g : Dev Cert.DyScale.nD → PrngReg), Pre_DyScale m →
    θ_run (Cert.DyScale.defs (F := Bits)) (onTc (τ := Cert.DyScale.τ) (Cert.DyScale.main (F := Bits))) ⟨m, fun _ => 0, g⟩ (fun r => (∀ c : Dev Cert.DyScale.nD,
      r.2.mem ((c.tc : Thread Cert.DyScale.nD Cert.DyScale.τ).loc Cert.DyScale.main_arg0) = m ((c.tc : Thread Cert.DyScale.nD Cert.DyScale.τ).loc Cert.DyScale.main_arg0)
      ∧ r.2.mem ((c.tc : Thread Cert.DyScale.nD Cert.DyScale.τ).loc Cert.DyScale.main_arg1) = m ((c.tc : Thread Cert.DyScale.nD Cert.DyScale.τ).loc Cert.DyScale.main_arg1))
      ∧ r.2.sem = fun _ => 0)

def quiescent_DyScaleIdeal [hDyScaleIdeal : Cert.DyScaleIdeal.Facts] : Prop :=
  ∀ (m : (ℓ : Loc Cert.DyScaleIdeal.nD Cert.DyScaleIdeal.τ Cert.DyScaleIdeal.sig) → Buf (Elt Ideal) ℓ) (g : Dev Cert.DyScaleIdeal.nD → PrngReg), Pre_DyScaleIdeal m →
    θ_run (Cert.DyScaleIdeal.defs (F := Ideal)) (onTc (τ := Cert.DyScaleIdeal.τ) (Cert.DyScaleIdeal.main (F := Ideal))) ⟨m, fun _ => 0, g⟩ (fun r => (∀ c : Dev Cert.DyScaleIdeal.nD,
      r.2.mem ((c.tc : Thread Cert.DyScaleIdeal.nD Cert.DyScaleIdeal.τ).loc Cert.DyScaleIdeal.main_arg0) = m ((c.tc : Thread Cert.DyScaleIdeal.nD Cert.DyScaleIdeal.τ).loc Cert.DyScaleIdeal.main_arg0)
      ∧ r.2.mem ((c.tc : Thread Cert.DyScaleIdeal.nD Cert.DyScaleIdeal.τ).loc Cert.DyScaleIdeal.main_arg1) = m ((c.tc : Thread Cert.DyScaleIdeal.nD Cert.DyScaleIdeal.τ).loc Cert.DyScaleIdeal.main_arg1))
      ∧ r.2.sem = fun _ => 0)

def quiescent_DyScaleRefIdeal [hDyScaleRefIdeal : Cert.DyScaleRefIdeal.Facts] : Prop :=
  ∀ (m : (ℓ : Loc Cert.DyScaleRefIdeal.nD Cert.DyScaleRefIdeal.τ Cert.DyScaleRefIdeal.sig) → Buf (Elt Ideal) ℓ) (g : Dev Cert.DyScaleRefIdeal.nD → PrngReg), Pre_DyScaleRefIdeal m →
    θ_run (Cert.DyScaleRefIdeal.defs (F := Ideal)) (onTc (τ := Cert.DyScaleRefIdeal.τ) (Cert.DyScaleRefIdeal.main (F := Ideal))) ⟨m, fun _ => 0, g⟩ (fun r => (∀ c : Dev Cert.DyScaleRefIdeal.nD,
      r.2.mem ((c.tc : Thread Cert.DyScaleRefIdeal.nD Cert.DyScaleRefIdeal.τ).loc Cert.DyScaleRefIdeal.main_arg0) = m ((c.tc : Thread Cert.DyScaleRefIdeal.nD Cert.DyScaleRefIdeal.τ).loc Cert.DyScaleRefIdeal.main_arg0)
      ∧ r.2.mem ((c.tc : Thread Cert.DyScaleRefIdeal.nD Cert.DyScaleRefIdeal.τ).loc Cert.DyScaleRefIdeal.main_arg1) = m ((c.tc : Thread Cert.DyScaleRefIdeal.nD Cert.DyScaleRefIdeal.τ).loc Cert.DyScaleRefIdeal.main_arg1))
      ∧ r.2.sem = fun _ => 0)

def quiescent_XScale [hXScale : Cert.XScale.Facts] : Prop :=
  ∀ (m : (ℓ : Loc Cert.XScale.nD Cert.XScale.τ Cert.XScale.sig) → Buf (Elt Bits) ℓ) (g : Dev Cert.XScale.nD → PrngReg), Pre_XScale m →
    θ_run (Cert.XScale.defs (F := Bits)) (onTc (τ := Cert.XScale.τ) (Cert.XScale.main (F := Bits))) ⟨m, fun _ => 0, g⟩ (fun r => (∀ c : Dev Cert.XScale.nD,
      r.2.mem ((c.tc : Thread Cert.XScale.nD Cert.XScale.τ).loc Cert.XScale.main_arg0) = m ((c.tc : Thread Cert.XScale.nD Cert.XScale.τ).loc Cert.XScale.main_arg0)
      ∧ r.2.mem ((c.tc : Thread Cert.XScale.nD Cert.XScale.τ).loc Cert.XScale.main_arg1) = m ((c.tc : Thread Cert.XScale.nD Cert.XScale.τ).loc Cert.XScale.main_arg1))
      ∧ r.2.sem = fun _ => 0)

def quiescent_XScaleIdeal [hXScaleIdeal : Cert.XScaleIdeal.Facts] : Prop :=
  ∀ (m : (ℓ : Loc Cert.XScaleIdeal.nD Cert.XScaleIdeal.τ Cert.XScaleIdeal.sig) → Buf (Elt Ideal) ℓ) (g : Dev Cert.XScaleIdeal.nD → PrngReg), Pre_XScaleIdeal m →
    θ_run (Cert.XScaleIdeal.defs (F := Ideal)) (onTc (τ := Cert.XScaleIdeal.τ) (Cert.XScaleIdeal.main (F := Ideal))) ⟨m, fun _ => 0, g⟩ (fun r => (∀ c : Dev Cert.XScaleIdeal.nD,
      r.2.mem ((c.tc : Thread Cert.XScaleIdeal.nD Cert.XScaleIdeal.τ).loc Cert.XScaleIdeal.main_arg0) = m ((c.tc : Thread Cert.XScaleIdeal.nD Cert.XScaleIdeal.τ).loc Cert.XScaleIdeal.main_arg0)
      ∧ r.2.mem ((c.tc : Thread Cert.XScaleIdeal.nD Cert.XScaleIdeal.τ).loc Cert.XScaleIdeal.main_arg1) = m ((c.tc : Thread Cert.XScaleIdeal.nD Cert.XScaleIdeal.τ).loc Cert.XScaleIdeal.main_arg1))
      ∧ r.2.sem = fun _ => 0)

def quiescent_XScaleRefIdeal [hXScaleRefIdeal : Cert.XScaleRefIdeal.Facts] : Prop :=
  ∀ (m : (ℓ : Loc Cert.XScaleRefIdeal.nD Cert.XScaleRefIdeal.τ Cert.XScaleRefIdeal.sig) → Buf (Elt Ideal) ℓ) (g : Dev Cert.XScaleRefIdeal.nD → PrngReg), Pre_XScaleRefIdeal m →
    θ_run (Cert.XScaleRefIdeal.defs (F := Ideal)) (onTc (τ := Cert.XScaleRefIdeal.τ) (Cert.XScaleRefIdeal.main (F := Ideal))) ⟨m, fun _ => 0, g⟩ (fun r => (∀ c : Dev Cert.XScaleRefIdeal.nD,
      r.2.mem ((c.tc : Thread Cert.XScaleRefIdeal.nD Cert.XScaleRefIdeal.τ).loc Cert.XScaleRefIdeal.main_arg0) = m ((c.tc : Thread Cert.XScaleRefIdeal.nD Cert.XScaleRefIdeal.τ).loc Cert.XScaleRefIdeal.main_arg0)
      ∧ r.2.mem ((c.tc : Thread Cert.XScaleRefIdeal.nD Cert.XScaleRefIdeal.τ).loc Cert.XScaleRefIdeal.main_arg1) = m ((c.tc : Thread Cert.XScaleRefIdeal.nD Cert.XScaleRefIdeal.τ).loc Cert.XScaleRefIdeal.main_arg1))
      ∧ r.2.sem = fun _ => 0)

def quiescent_QuantSr [hQuantSr : Cert.QuantSr.Facts] : Prop :=
  ∀ (m : (ℓ : Loc Cert.QuantSr.nD Cert.QuantSr.τ Cert.QuantSr.sig) → Buf (Elt Bits) ℓ) (g : Dev Cert.QuantSr.nD → PrngReg), Pre_QuantSr m →
    θ_run (Cert.QuantSr.defs (F := Bits)) (onTc (τ := Cert.QuantSr.τ) (Cert.QuantSr.main (F := Bits))) ⟨m, fun _ => 0, g⟩ (fun r => (∀ c : Dev Cert.QuantSr.nD,
      r.2.mem ((c.tc : Thread Cert.QuantSr.nD Cert.QuantSr.τ).loc Cert.QuantSr.main_arg0) = m ((c.tc : Thread Cert.QuantSr.nD Cert.QuantSr.τ).loc Cert.QuantSr.main_arg0)
      ∧ r.2.mem ((c.tc : Thread Cert.QuantSr.nD Cert.QuantSr.τ).loc Cert.QuantSr.main_arg1) = m ((c.tc : Thread Cert.QuantSr.nD Cert.QuantSr.τ).loc Cert.QuantSr.main_arg1)
      ∧ r.2.mem ((c.tc : Thread Cert.QuantSr.nD Cert.QuantSr.τ).loc Cert.QuantSr.main_arg2) = m ((c.tc : Thread Cert.QuantSr.nD Cert.QuantSr.τ).loc Cert.QuantSr.main_arg2)
      ∧ r.2.mem ((c.tc : Thread Cert.QuantSr.nD Cert.QuantSr.τ).loc Cert.QuantSr.main_arg3) = m ((c.tc : Thread Cert.QuantSr.nD Cert.QuantSr.τ).loc Cert.QuantSr.main_arg3))
      ∧ r.2.sem = fun _ => 0)

def quiescent_QuantRn [hQuantRn : Cert.QuantRn.Facts] : Prop :=
  ∀ (m : (ℓ : Loc Cert.QuantRn.nD Cert.QuantRn.τ Cert.QuantRn.sig) → Buf (Elt Bits) ℓ) (g : Dev Cert.QuantRn.nD → PrngReg), Pre_QuantRn m →
    θ_run (Cert.QuantRn.defs (F := Bits)) (onTc (τ := Cert.QuantRn.τ) (Cert.QuantRn.main (F := Bits))) ⟨m, fun _ => 0, g⟩ (fun r => (∀ c : Dev Cert.QuantRn.nD,
      r.2.mem ((c.tc : Thread Cert.QuantRn.nD Cert.QuantRn.τ).loc Cert.QuantRn.main_arg0) = m ((c.tc : Thread Cert.QuantRn.nD Cert.QuantRn.τ).loc Cert.QuantRn.main_arg0)
      ∧ r.2.mem ((c.tc : Thread Cert.QuantRn.nD Cert.QuantRn.τ).loc Cert.QuantRn.main_arg1) = m ((c.tc : Thread Cert.QuantRn.nD Cert.QuantRn.τ).loc Cert.QuantRn.main_arg1)
      ∧ r.2.mem ((c.tc : Thread Cert.QuantRn.nD Cert.QuantRn.τ).loc Cert.QuantRn.main_arg2) = m ((c.tc : Thread Cert.QuantRn.nD Cert.QuantRn.τ).loc Cert.QuantRn.main_arg2))
      ∧ r.2.sem = fun _ => 0)

def quiescent_XBlk [hXBlk : Cert.XBlk.Facts] : Prop :=
  ∀ (m : (ℓ : Loc Cert.XBlk.nD Cert.XBlk.τ Cert.XBlk.sig) → Buf (Elt Bits) ℓ) (g : Dev Cert.XBlk.nD → PrngReg), Pre_XBlk m →
    θ_run (Cert.XBlk.defs (F := Bits)) (onTc (τ := Cert.XBlk.τ) (Cert.XBlk.main (F := Bits))) ⟨m, fun _ => 0, g⟩ (fun r => (∀ c : Dev Cert.XBlk.nD,
      r.2.mem ((c.tc : Thread Cert.XBlk.nD Cert.XBlk.τ).loc Cert.XBlk.main_arg0) = m ((c.tc : Thread Cert.XBlk.nD Cert.XBlk.τ).loc Cert.XBlk.main_arg0)
      ∧ r.2.mem ((c.tc : Thread Cert.XBlk.nD Cert.XBlk.τ).loc Cert.XBlk.main_arg1) = m ((c.tc : Thread Cert.XBlk.nD Cert.XBlk.τ).loc Cert.XBlk.main_arg1)
      ∧ r.2.mem ((c.tc : Thread Cert.XBlk.nD Cert.XBlk.τ).loc Cert.XBlk.main_arg2) = m ((c.tc : Thread Cert.XBlk.nD Cert.XBlk.τ).loc Cert.XBlk.main_arg2))
      ∧ r.2.sem = fun _ => 0)

def quiescent_XBlkIdeal [hXBlkIdeal : Cert.XBlkIdeal.Facts] : Prop :=
  ∀ (m : (ℓ : Loc Cert.XBlkIdeal.nD Cert.XBlkIdeal.τ Cert.XBlkIdeal.sig) → Buf (Elt Ideal) ℓ) (g : Dev Cert.XBlkIdeal.nD → PrngReg), Pre_XBlkIdeal m →
    θ_run (Cert.XBlkIdeal.defs (F := Ideal)) (onTc (τ := Cert.XBlkIdeal.τ) (Cert.XBlkIdeal.main (F := Ideal))) ⟨m, fun _ => 0, g⟩ (fun r => (∀ c : Dev Cert.XBlkIdeal.nD,
      r.2.mem ((c.tc : Thread Cert.XBlkIdeal.nD Cert.XBlkIdeal.τ).loc Cert.XBlkIdeal.main_arg0) = m ((c.tc : Thread Cert.XBlkIdeal.nD Cert.XBlkIdeal.τ).loc Cert.XBlkIdeal.main_arg0)
      ∧ r.2.mem ((c.tc : Thread Cert.XBlkIdeal.nD Cert.XBlkIdeal.τ).loc Cert.XBlkIdeal.main_arg1) = m ((c.tc : Thread Cert.XBlkIdeal.nD Cert.XBlkIdeal.τ).loc Cert.XBlkIdeal.main_arg1)
      ∧ r.2.mem ((c.tc : Thread Cert.XBlkIdeal.nD Cert.XBlkIdeal.τ).loc Cert.XBlkIdeal.main_arg2) = m ((c.tc : Thread Cert.XBlkIdeal.nD Cert.XBlkIdeal.τ).loc Cert.XBlkIdeal.main_arg2))
      ∧ r.2.sem = fun _ => 0)

def quiescent_XBlkIdeal_pre_x_scale_positive [hXBlkIdeal : Cert.XBlkIdeal.Facts] [hPre_x_scale_positive : Cert.Pre_x_scale_positive.Facts] : Prop :=
  ∀ (m : (ℓ : Loc Cert.XBlkIdeal.nD Cert.XBlkIdeal.τ Cert.XBlkIdeal.sig) → Buf (Elt Ideal) ℓ) (g : Dev Cert.XBlkIdeal.nD → PrngReg), Pre_XBlkIdeal_x_scale_positive m →
    θ_run (Cert.XBlkIdeal.defs (F := Ideal)) (onTc (τ := Cert.XBlkIdeal.τ) (Cert.XBlkIdeal.main (F := Ideal))) ⟨m, fun _ => 0, g⟩ (fun r => (∀ c : Dev Cert.XBlkIdeal.nD,
      r.2.mem ((c.tc : Thread Cert.XBlkIdeal.nD Cert.XBlkIdeal.τ).loc Cert.XBlkIdeal.main_arg0) = m ((c.tc : Thread Cert.XBlkIdeal.nD Cert.XBlkIdeal.τ).loc Cert.XBlkIdeal.main_arg0)
      ∧ r.2.mem ((c.tc : Thread Cert.XBlkIdeal.nD Cert.XBlkIdeal.τ).loc Cert.XBlkIdeal.main_arg1) = m ((c.tc : Thread Cert.XBlkIdeal.nD Cert.XBlkIdeal.τ).loc Cert.XBlkIdeal.main_arg1)
      ∧ r.2.mem ((c.tc : Thread Cert.XBlkIdeal.nD Cert.XBlkIdeal.τ).loc Cert.XBlkIdeal.main_arg2) = m ((c.tc : Thread Cert.XBlkIdeal.nD Cert.XBlkIdeal.τ).loc Cert.XBlkIdeal.main_arg2))
      ∧ r.2.sem = fun _ => 0)

def quiescent_XBlkRefIdeal [hXBlkRefIdeal : Cert.XBlkRefIdeal.Facts] : Prop :=
  ∀ (m : (ℓ : Loc Cert.XBlkRefIdeal.nD Cert.XBlkRefIdeal.τ Cert.XBlkRefIdeal.sig) → Buf (Elt Ideal) ℓ) (g : Dev Cert.XBlkRefIdeal.nD → PrngReg), Pre_XBlkRefIdeal m →
    θ_run (Cert.XBlkRefIdeal.defs (F := Ideal)) (onTc (τ := Cert.XBlkRefIdeal.τ) (Cert.XBlkRefIdeal.main (F := Ideal))) ⟨m, fun _ => 0, g⟩ (fun r => (∀ c : Dev Cert.XBlkRefIdeal.nD,
      r.2.mem ((c.tc : Thread Cert.XBlkRefIdeal.nD Cert.XBlkRefIdeal.τ).loc Cert.XBlkRefIdeal.main_arg0) = m ((c.tc : Thread Cert.XBlkRefIdeal.nD Cert.XBlkRefIdeal.τ).loc Cert.XBlkRefIdeal.main_arg0)
      ∧ r.2.mem ((c.tc : Thread Cert.XBlkRefIdeal.nD Cert.XBlkRefIdeal.τ).loc Cert.XBlkRefIdeal.main_arg1) = m ((c.tc : Thread Cert.XBlkRefIdeal.nD Cert.XBlkRefIdeal.τ).loc Cert.XBlkRefIdeal.main_arg1)
      ∧ r.2.mem ((c.tc : Thread Cert.XBlkRefIdeal.nD Cert.XBlkRefIdeal.τ).loc Cert.XBlkRefIdeal.main_arg2) = m ((c.tc : Thread Cert.XBlkRefIdeal.nD Cert.XBlkRefIdeal.τ).loc Cert.XBlkRefIdeal.main_arg2))
      ∧ r.2.sem = fun _ => 0)

def quiescent_XBlkRefIdeal_pre_x_scale_positive [hXBlkRefIdeal : Cert.XBlkRefIdeal.Facts] [hPre_x_scale_positive : Cert.Pre_x_scale_positive.Facts] : Prop :=
  ∀ (m : (ℓ : Loc Cert.XBlkRefIdeal.nD Cert.XBlkRefIdeal.τ Cert.XBlkRefIdeal.sig) → Buf (Elt Ideal) ℓ) (g : Dev Cert.XBlkRefIdeal.nD → PrngReg), Pre_XBlkRefIdeal_x_scale_positive m →
    θ_run (Cert.XBlkRefIdeal.defs (F := Ideal)) (onTc (τ := Cert.XBlkRefIdeal.τ) (Cert.XBlkRefIdeal.main (F := Ideal))) ⟨m, fun _ => 0, g⟩ (fun r => (∀ c : Dev Cert.XBlkRefIdeal.nD,
      r.2.mem ((c.tc : Thread Cert.XBlkRefIdeal.nD Cert.XBlkRefIdeal.τ).loc Cert.XBlkRefIdeal.main_arg0) = m ((c.tc : Thread Cert.XBlkRefIdeal.nD Cert.XBlkRefIdeal.τ).loc Cert.XBlkRefIdeal.main_arg0)
      ∧ r.2.mem ((c.tc : Thread Cert.XBlkRefIdeal.nD Cert.XBlkRefIdeal.τ).loc Cert.XBlkRefIdeal.main_arg1) = m ((c.tc : Thread Cert.XBlkRefIdeal.nD Cert.XBlkRefIdeal.τ).loc Cert.XBlkRefIdeal.main_arg1)
      ∧ r.2.mem ((c.tc : Thread Cert.XBlkRefIdeal.nD Cert.XBlkRefIdeal.τ).loc Cert.XBlkRefIdeal.main_arg2) = m ((c.tc : Thread Cert.XBlkRefIdeal.nD Cert.XBlkRefIdeal.τ).loc Cert.XBlkRefIdeal.main_arg2))
      ∧ r.2.sem = fun _ => 0)

def quiescent_DyBlk [hDyBlk : Cert.DyBlk.Facts] : Prop :=
  ∀ (m : (ℓ : Loc Cert.DyBlk.nD Cert.DyBlk.τ Cert.DyBlk.sig) → Buf (Elt Bits) ℓ) (g : Dev Cert.DyBlk.nD → PrngReg), Pre_DyBlk m →
    θ_run (Cert.DyBlk.defs (F := Bits)) (onTc (τ := Cert.DyBlk.τ) (Cert.DyBlk.main (F := Bits))) ⟨m, fun _ => 0, g⟩ (fun r => (∀ c : Dev Cert.DyBlk.nD,
      r.2.mem ((c.tc : Thread Cert.DyBlk.nD Cert.DyBlk.τ).loc Cert.DyBlk.main_arg0) = m ((c.tc : Thread Cert.DyBlk.nD Cert.DyBlk.τ).loc Cert.DyBlk.main_arg0)
      ∧ r.2.mem ((c.tc : Thread Cert.DyBlk.nD Cert.DyBlk.τ).loc Cert.DyBlk.main_arg1) = m ((c.tc : Thread Cert.DyBlk.nD Cert.DyBlk.τ).loc Cert.DyBlk.main_arg1)
      ∧ r.2.mem ((c.tc : Thread Cert.DyBlk.nD Cert.DyBlk.τ).loc Cert.DyBlk.main_arg2) = m ((c.tc : Thread Cert.DyBlk.nD Cert.DyBlk.τ).loc Cert.DyBlk.main_arg2)
      ∧ r.2.mem ((c.tc : Thread Cert.DyBlk.nD Cert.DyBlk.τ).loc Cert.DyBlk.main_arg3) = m ((c.tc : Thread Cert.DyBlk.nD Cert.DyBlk.τ).loc Cert.DyBlk.main_arg3))
      ∧ r.2.sem = fun _ => 0)

def quiescent_DyBlkIdeal [hDyBlkIdeal : Cert.DyBlkIdeal.Facts] : Prop :=
  ∀ (m : (ℓ : Loc Cert.DyBlkIdeal.nD Cert.DyBlkIdeal.τ Cert.DyBlkIdeal.sig) → Buf (Elt Ideal) ℓ) (g : Dev Cert.DyBlkIdeal.nD → PrngReg), Pre_DyBlkIdeal m →
    θ_run (Cert.DyBlkIdeal.defs (F := Ideal)) (onTc (τ := Cert.DyBlkIdeal.τ) (Cert.DyBlkIdeal.main (F := Ideal))) ⟨m, fun _ => 0, g⟩ (fun r => (∀ c : Dev Cert.DyBlkIdeal.nD,
      r.2.mem ((c.tc : Thread Cert.DyBlkIdeal.nD Cert.DyBlkIdeal.τ).loc Cert.DyBlkIdeal.main_arg0) = m ((c.tc : Thread Cert.DyBlkIdeal.nD Cert.DyBlkIdeal.τ).loc Cert.DyBlkIdeal.main_arg0)
      ∧ r.2.mem ((c.tc : Thread Cert.DyBlkIdeal.nD Cert.DyBlkIdeal.τ).loc Cert.DyBlkIdeal.main_arg1) = m ((c.tc : Thread Cert.DyBlkIdeal.nD Cert.DyBlkIdeal.τ).loc Cert.DyBlkIdeal.main_arg1)
      ∧ r.2.mem ((c.tc : Thread Cert.DyBlkIdeal.nD Cert.DyBlkIdeal.τ).loc Cert.DyBlkIdeal.main_arg2) = m ((c.tc : Thread Cert.DyBlkIdeal.nD Cert.DyBlkIdeal.τ).loc Cert.DyBlkIdeal.main_arg2)
      ∧ r.2.mem ((c.tc : Thread Cert.DyBlkIdeal.nD Cert.DyBlkIdeal.τ).loc Cert.DyBlkIdeal.main_arg3) = m ((c.tc : Thread Cert.DyBlkIdeal.nD Cert.DyBlkIdeal.τ).loc Cert.DyBlkIdeal.main_arg3))
      ∧ r.2.sem = fun _ => 0)

def quiescent_DyBlkIdeal_pre_dy_scale_positive [hDyBlkIdeal : Cert.DyBlkIdeal.Facts] [hPre_dy_scale_positive : Cert.Pre_dy_scale_positive.Facts] : Prop :=
  ∀ (m : (ℓ : Loc Cert.DyBlkIdeal.nD Cert.DyBlkIdeal.τ Cert.DyBlkIdeal.sig) → Buf (Elt Ideal) ℓ) (g : Dev Cert.DyBlkIdeal.nD → PrngReg), Pre_DyBlkIdeal_dy_scale_positive m →
    θ_run (Cert.DyBlkIdeal.defs (F := Ideal)) (onTc (τ := Cert.DyBlkIdeal.τ) (Cert.DyBlkIdeal.main (F := Ideal))) ⟨m, fun _ => 0, g⟩ (fun r => (∀ c : Dev Cert.DyBlkIdeal.nD,
      r.2.mem ((c.tc : Thread Cert.DyBlkIdeal.nD Cert.DyBlkIdeal.τ).loc Cert.DyBlkIdeal.main_arg0) = m ((c.tc : Thread Cert.DyBlkIdeal.nD Cert.DyBlkIdeal.τ).loc Cert.DyBlkIdeal.main_arg0)
      ∧ r.2.mem ((c.tc : Thread Cert.DyBlkIdeal.nD Cert.DyBlkIdeal.τ).loc Cert.DyBlkIdeal.main_arg1) = m ((c.tc : Thread Cert.DyBlkIdeal.nD Cert.DyBlkIdeal.τ).loc Cert.DyBlkIdeal.main_arg1)
      ∧ r.2.mem ((c.tc : Thread Cert.DyBlkIdeal.nD Cert.DyBlkIdeal.τ).loc Cert.DyBlkIdeal.main_arg2) = m ((c.tc : Thread Cert.DyBlkIdeal.nD Cert.DyBlkIdeal.τ).loc Cert.DyBlkIdeal.main_arg2)
      ∧ r.2.mem ((c.tc : Thread Cert.DyBlkIdeal.nD Cert.DyBlkIdeal.τ).loc Cert.DyBlkIdeal.main_arg3) = m ((c.tc : Thread Cert.DyBlkIdeal.nD Cert.DyBlkIdeal.τ).loc Cert.DyBlkIdeal.main_arg3))
      ∧ r.2.sem = fun _ => 0)

def quiescent_DyBlkRefIdeal [hDyBlkRefIdeal : Cert.DyBlkRefIdeal.Facts] : Prop :=
  ∀ (m : (ℓ : Loc Cert.DyBlkRefIdeal.nD Cert.DyBlkRefIdeal.τ Cert.DyBlkRefIdeal.sig) → Buf (Elt Ideal) ℓ) (g : Dev Cert.DyBlkRefIdeal.nD → PrngReg), Pre_DyBlkRefIdeal m →
    θ_run (Cert.DyBlkRefIdeal.defs (F := Ideal)) (onTc (τ := Cert.DyBlkRefIdeal.τ) (Cert.DyBlkRefIdeal.main (F := Ideal))) ⟨m, fun _ => 0, g⟩ (fun r => (∀ c : Dev Cert.DyBlkRefIdeal.nD,
      r.2.mem ((c.tc : Thread Cert.DyBlkRefIdeal.nD Cert.DyBlkRefIdeal.τ).loc Cert.DyBlkRefIdeal.main_arg0) = m ((c.tc : Thread Cert.DyBlkRefIdeal.nD Cert.DyBlkRefIdeal.τ).loc Cert.DyBlkRefIdeal.main_arg0)
      ∧ r.2.mem ((c.tc : Thread Cert.DyBlkRefIdeal.nD Cert.DyBlkRefIdeal.τ).loc Cert.DyBlkRefIdeal.main_arg1) = m ((c.tc : Thread Cert.DyBlkRefIdeal.nD Cert.DyBlkRefIdeal.τ).loc Cert.DyBlkRefIdeal.main_arg1)
      ∧ r.2.mem ((c.tc : Thread Cert.DyBlkRefIdeal.nD Cert.DyBlkRefIdeal.τ).loc Cert.DyBlkRefIdeal.main_arg2) = m ((c.tc : Thread Cert.DyBlkRefIdeal.nD Cert.DyBlkRefIdeal.τ).loc Cert.DyBlkRefIdeal.main_arg2)
      ∧ r.2.mem ((c.tc : Thread Cert.DyBlkRefIdeal.nD Cert.DyBlkRefIdeal.τ).loc Cert.DyBlkRefIdeal.main_arg3) = m ((c.tc : Thread Cert.DyBlkRefIdeal.nD Cert.DyBlkRefIdeal.τ).loc Cert.DyBlkRefIdeal.main_arg3))
      ∧ r.2.sem = fun _ => 0)

def quiescent_DyBlkRefIdeal_pre_dy_scale_positive [hDyBlkRefIdeal : Cert.DyBlkRefIdeal.Facts] [hPre_dy_scale_positive : Cert.Pre_dy_scale_positive.Facts] : Prop :=
  ∀ (m : (ℓ : Loc Cert.DyBlkRefIdeal.nD Cert.DyBlkRefIdeal.τ Cert.DyBlkRefIdeal.sig) → Buf (Elt Ideal) ℓ) (g : Dev Cert.DyBlkRefIdeal.nD → PrngReg), Pre_DyBlkRefIdeal_dy_scale_positive m →
    θ_run (Cert.DyBlkRefIdeal.defs (F := Ideal)) (onTc (τ := Cert.DyBlkRefIdeal.τ) (Cert.DyBlkRefIdeal.main (F := Ideal))) ⟨m, fun _ => 0, g⟩ (fun r => (∀ c : Dev Cert.DyBlkRefIdeal.nD,
      r.2.mem ((c.tc : Thread Cert.DyBlkRefIdeal.nD Cert.DyBlkRefIdeal.τ).loc Cert.DyBlkRefIdeal.main_arg0) = m ((c.tc : Thread Cert.DyBlkRefIdeal.nD Cert.DyBlkRefIdeal.τ).loc Cert.DyBlkRefIdeal.main_arg0)
      ∧ r.2.mem ((c.tc : Thread Cert.DyBlkRefIdeal.nD Cert.DyBlkRefIdeal.τ).loc Cert.DyBlkRefIdeal.main_arg1) = m ((c.tc : Thread Cert.DyBlkRefIdeal.nD Cert.DyBlkRefIdeal.τ).loc Cert.DyBlkRefIdeal.main_arg1)
      ∧ r.2.mem ((c.tc : Thread Cert.DyBlkRefIdeal.nD Cert.DyBlkRefIdeal.τ).loc Cert.DyBlkRefIdeal.main_arg2) = m ((c.tc : Thread Cert.DyBlkRefIdeal.nD Cert.DyBlkRefIdeal.τ).loc Cert.DyBlkRefIdeal.main_arg2)
      ∧ r.2.mem ((c.tc : Thread Cert.DyBlkRefIdeal.nD Cert.DyBlkRefIdeal.τ).loc Cert.DyBlkRefIdeal.main_arg3) = m ((c.tc : Thread Cert.DyBlkRefIdeal.nD Cert.DyBlkRefIdeal.τ).loc Cert.DyBlkRefIdeal.main_arg3))
      ∧ r.2.sem = fun _ => 0)

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v6) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3))

def preserves_DyScale_DyScaleIdeal : Prop :=
  True

def algebraic_DyScaleIdeal_DyScaleRefIdeal [hDyScaleIdeal : Cert.DyScaleIdeal.Facts] [hDyScaleRefIdeal : Cert.DyScaleRefIdeal.Facts] : Prop :=
  ∀ (m : (ℓ : Loc Cert.DyScaleIdeal.nD Cert.DyScaleIdeal.τ Cert.DyScaleIdeal.sig) → Buf (Elt Ideal) ℓ) (g : Dev Cert.DyScaleIdeal.nD → PrngReg)
    (m' : (ℓ : Loc Cert.DyScaleRefIdeal.nD Cert.DyScaleRefIdeal.τ Cert.DyScaleRefIdeal.sig) → Buf (Elt Ideal) ℓ) (g' : Dev Cert.DyScaleRefIdeal.nD → PrngReg), Pre_DyScaleIdeal m →
    (∀ c : Dev Cert.DyScaleIdeal.nD,
      m' ((c.tc : Thread Cert.DyScaleRefIdeal.nD Cert.DyScaleRefIdeal.τ).loc Cert.DyScaleRefIdeal.main_arg0) = m ((c.tc : Thread Cert.DyScaleIdeal.nD Cert.DyScaleIdeal.τ).loc Cert.DyScaleIdeal.main_arg0)
      ∧ m' ((c.tc : Thread Cert.DyScaleRefIdeal.nD Cert.DyScaleRefIdeal.τ).loc Cert.DyScaleRefIdeal.main_arg1) = m ((c.tc : Thread Cert.DyScaleIdeal.nD Cert.DyScaleIdeal.τ).loc Cert.DyScaleIdeal.main_arg1)) →
    ∃ (v0 : (c : Dev Cert.DyScaleIdeal.nD) → Buf (Elt Ideal) ((c.tc : Thread Cert.DyScaleIdeal.nD Cert.DyScaleIdeal.τ).loc Cert.DyScaleIdeal.main_v27)),
      θ_run (Cert.DyScaleIdeal.defs (F := Ideal)) (onTc (τ := Cert.DyScaleIdeal.τ) (Cert.DyScaleIdeal.main (F := Ideal))) ⟨m, fun _ => 0, g⟩ (fun r => ∀ c : Dev Cert.DyScaleIdeal.nD,
          r.2.mem ((c.tc : Thread Cert.DyScaleIdeal.nD Cert.DyScaleIdeal.τ).loc Cert.DyScaleIdeal.main_v27) = v0 c
          ∧ r.2.mem ((c.tc : Thread Cert.DyScaleIdeal.nD Cert.DyScaleIdeal.τ).loc Cert.DyScaleIdeal.main_arg0) = m ((c.tc : Thread Cert.DyScaleIdeal.nD Cert.DyScaleIdeal.τ).loc Cert.DyScaleIdeal.main_arg0)
          ∧ r.2.mem ((c.tc : Thread Cert.DyScaleIdeal.nD Cert.DyScaleIdeal.τ).loc Cert.DyScaleIdeal.main_arg1) = m ((c.tc : Thread Cert.DyScaleIdeal.nD Cert.DyScaleIdeal.τ).loc Cert.DyScaleIdeal.main_arg1))
      ∧ θ_run (Cert.DyScaleRefIdeal.defs (F := Ideal)) (onTc (τ := Cert.DyScaleRefIdeal.τ) (Cert.DyScaleRefIdeal.main (F := Ideal))) ⟨m', fun _ => 0, g'⟩ (fun r => ∀ c : Dev Cert.DyScaleRefIdeal.nD,
          r.2.mem ((c.tc : Thread Cert.DyScaleRefIdeal.nD Cert.DyScaleRefIdeal.τ).loc Cert.DyScaleRefIdeal.main_v28) = v0 c
          ∧ r.2.mem ((c.tc : Thread Cert.DyScaleRefIdeal.nD Cert.DyScaleRefIdeal.τ).loc Cert.DyScaleRefIdeal.main_arg0) = m' ((c.tc : Thread Cert.DyScaleRefIdeal.nD Cert.DyScaleRefIdeal.τ).loc Cert.DyScaleRefIdeal.main_arg0)
          ∧ r.2.mem ((c.tc : Thread Cert.DyScaleRefIdeal.nD Cert.DyScaleRefIdeal.τ).loc Cert.DyScaleRefIdeal.main_arg1) = m' ((c.tc : Thread Cert.DyScaleRefIdeal.nD Cert.DyScaleRefIdeal.τ).loc Cert.DyScaleRefIdeal.main_arg1))

def preserves_XScale_XScaleIdeal : Prop :=
  True

def algebraic_XScaleIdeal_XScaleRefIdeal [hXScaleIdeal : Cert.XScaleIdeal.Facts] [hXScaleRefIdeal : Cert.XScaleRefIdeal.Facts] : Prop :=
  ∀ (m : (ℓ : Loc Cert.XScaleIdeal.nD Cert.XScaleIdeal.τ Cert.XScaleIdeal.sig) → Buf (Elt Ideal) ℓ) (g : Dev Cert.XScaleIdeal.nD → PrngReg)
    (m' : (ℓ : Loc Cert.XScaleRefIdeal.nD Cert.XScaleRefIdeal.τ Cert.XScaleRefIdeal.sig) → Buf (Elt Ideal) ℓ) (g' : Dev Cert.XScaleRefIdeal.nD → PrngReg), Pre_XScaleIdeal m →
    (∀ c : Dev Cert.XScaleIdeal.nD,
      m' ((c.tc : Thread Cert.XScaleRefIdeal.nD Cert.XScaleRefIdeal.τ).loc Cert.XScaleRefIdeal.main_arg0) = m ((c.tc : Thread Cert.XScaleIdeal.nD Cert.XScaleIdeal.τ).loc Cert.XScaleIdeal.main_arg0)
      ∧ m' ((c.tc : Thread Cert.XScaleRefIdeal.nD Cert.XScaleRefIdeal.τ).loc Cert.XScaleRefIdeal.main_arg1) = m ((c.tc : Thread Cert.XScaleIdeal.nD Cert.XScaleIdeal.τ).loc Cert.XScaleIdeal.main_arg1)) →
    ∃ (v0 : (c : Dev Cert.XScaleIdeal.nD) → Buf (Elt Ideal) ((c.tc : Thread Cert.XScaleIdeal.nD Cert.XScaleIdeal.τ).loc Cert.XScaleIdeal.main_v27)),
      θ_run (Cert.XScaleIdeal.defs (F := Ideal)) (onTc (τ := Cert.XScaleIdeal.τ) (Cert.XScaleIdeal.main (F := Ideal))) ⟨m, fun _ => 0, g⟩ (fun r => ∀ c : Dev Cert.XScaleIdeal.nD,
          r.2.mem ((c.tc : Thread Cert.XScaleIdeal.nD Cert.XScaleIdeal.τ).loc Cert.XScaleIdeal.main_v27) = v0 c
          ∧ r.2.mem ((c.tc : Thread Cert.XScaleIdeal.nD Cert.XScaleIdeal.τ).loc Cert.XScaleIdeal.main_arg0) = m ((c.tc : Thread Cert.XScaleIdeal.nD Cert.XScaleIdeal.τ).loc Cert.XScaleIdeal.main_arg0)
          ∧ r.2.mem ((c.tc : Thread Cert.XScaleIdeal.nD Cert.XScaleIdeal.τ).loc Cert.XScaleIdeal.main_arg1) = m ((c.tc : Thread Cert.XScaleIdeal.nD Cert.XScaleIdeal.τ).loc Cert.XScaleIdeal.main_arg1))
      ∧ θ_run (Cert.XScaleRefIdeal.defs (F := Ideal)) (onTc (τ := Cert.XScaleRefIdeal.τ) (Cert.XScaleRefIdeal.main (F := Ideal))) ⟨m', fun _ => 0, g'⟩ (fun r => ∀ c : Dev Cert.XScaleRefIdeal.nD,
          r.2.mem ((c.tc : Thread Cert.XScaleRefIdeal.nD Cert.XScaleRefIdeal.τ).loc Cert.XScaleRefIdeal.main_v28) = v0 c
          ∧ r.2.mem ((c.tc : Thread Cert.XScaleRefIdeal.nD Cert.XScaleRefIdeal.τ).loc Cert.XScaleRefIdeal.main_arg0) = m' ((c.tc : Thread Cert.XScaleRefIdeal.nD Cert.XScaleRefIdeal.τ).loc Cert.XScaleRefIdeal.main_arg0)
          ∧ r.2.mem ((c.tc : Thread Cert.XScaleRefIdeal.nD Cert.XScaleRefIdeal.τ).loc Cert.XScaleRefIdeal.main_arg1) = m' ((c.tc : Thread Cert.XScaleRefIdeal.nD Cert.XScaleRefIdeal.τ).loc Cert.XScaleRefIdeal.main_arg1))

def preserves_XBlk_XBlkIdeal : Prop :=
  IdealRules.bf16_pair.Statement Cert.XBlkIdeal.S8x2x128 Cert.XBlkIdeal.S8x1x128
  ∧ IdealRules.bf16_pair.Statement Cert.XBlkIdeal.S16x128 Cert.XBlkIdeal.S8x128

def algebraic_XBlkIdeal_XBlkRefIdeal_pre_x_scale_positive [hXBlkIdeal : Cert.XBlkIdeal.Facts] [hXBlkRefIdeal : Cert.XBlkRefIdeal.Facts] [hPre_x_scale_positive : Cert.Pre_x_scale_positive.Facts] : Prop :=
  ∀ (m : (ℓ : Loc Cert.XBlkIdeal.nD Cert.XBlkIdeal.τ Cert.XBlkIdeal.sig) → Buf (Elt Ideal) ℓ) (g : Dev Cert.XBlkIdeal.nD → PrngReg)
    (m' : (ℓ : Loc Cert.XBlkRefIdeal.nD Cert.XBlkRefIdeal.τ Cert.XBlkRefIdeal.sig) → Buf (Elt Ideal) ℓ) (g' : Dev Cert.XBlkRefIdeal.nD → PrngReg), Pre_XBlkIdeal_x_scale_positive m →
    (∀ c : Dev Cert.XBlkIdeal.nD,
      m' ((c.tc : Thread Cert.XBlkRefIdeal.nD Cert.XBlkRefIdeal.τ).loc Cert.XBlkRefIdeal.main_arg0) = m ((c.tc : Thread Cert.XBlkIdeal.nD Cert.XBlkIdeal.τ).loc Cert.XBlkIdeal.main_arg0)
      ∧ m' ((c.tc : Thread Cert.XBlkRefIdeal.nD Cert.XBlkRefIdeal.τ).loc Cert.XBlkRefIdeal.main_arg1) = m ((c.tc : Thread Cert.XBlkIdeal.nD Cert.XBlkIdeal.τ).loc Cert.XBlkIdeal.main_arg1)
      ∧ m' ((c.tc : Thread Cert.XBlkRefIdeal.nD Cert.XBlkRefIdeal.τ).loc Cert.XBlkRefIdeal.main_arg2) = m ((c.tc : Thread Cert.XBlkIdeal.nD Cert.XBlkIdeal.τ).loc Cert.XBlkIdeal.main_arg2)) →
    ∃ (v0 : (c : Dev Cert.XBlkIdeal.nD) → Buf (Elt Ideal) ((c.tc : Thread Cert.XBlkIdeal.nD Cert.XBlkIdeal.τ).loc Cert.XBlkIdeal.main_v8_1)),
      θ_run (Cert.XBlkIdeal.defs (F := Ideal)) (onTc (τ := Cert.XBlkIdeal.τ) (Cert.XBlkIdeal.main (F := Ideal))) ⟨m, fun _ => 0, g⟩ (fun r => ∀ c : Dev Cert.XBlkIdeal.nD,
          r.2.mem ((c.tc : Thread Cert.XBlkIdeal.nD Cert.XBlkIdeal.τ).loc Cert.XBlkIdeal.main_v8_1) = v0 c
          ∧ r.2.mem ((c.tc : Thread Cert.XBlkIdeal.nD Cert.XBlkIdeal.τ).loc Cert.XBlkIdeal.main_arg0) = m ((c.tc : Thread Cert.XBlkIdeal.nD Cert.XBlkIdeal.τ).loc Cert.XBlkIdeal.main_arg0)
          ∧ r.2.mem ((c.tc : Thread Cert.XBlkIdeal.nD Cert.XBlkIdeal.τ).loc Cert.XBlkIdeal.main_arg1) = m ((c.tc : Thread Cert.XBlkIdeal.nD Cert.XBlkIdeal.τ).loc Cert.XBlkIdeal.main_arg1)
          ∧ r.2.mem ((c.tc : Thread Cert.XBlkIdeal.nD Cert.XBlkIdeal.τ).loc Cert.XBlkIdeal.main_arg2) = m ((c.tc : Thread Cert.XBlkIdeal.nD Cert.XBlkIdeal.τ).loc Cert.XBlkIdeal.main_arg2))
      ∧ θ_run (Cert.XBlkRefIdeal.defs (F := Ideal)) (onTc (τ := Cert.XBlkRefIdeal.τ) (Cert.XBlkRefIdeal.main (F := Ideal))) ⟨m', fun _ => 0, g'⟩ (fun r => ∀ c : Dev Cert.XBlkRefIdeal.nD,
          r.2.mem ((c.tc : Thread Cert.XBlkRefIdeal.nD Cert.XBlkRefIdeal.τ).loc Cert.XBlkRefIdeal.main_v31) = v0 c
          ∧ r.2.mem ((c.tc : Thread Cert.XBlkRefIdeal.nD Cert.XBlkRefIdeal.τ).loc Cert.XBlkRefIdeal.main_arg0) = m' ((c.tc : Thread Cert.XBlkRefIdeal.nD Cert.XBlkRefIdeal.τ).loc Cert.XBlkRefIdeal.main_arg0)
          ∧ r.2.mem ((c.tc : Thread Cert.XBlkRefIdeal.nD Cert.XBlkRefIdeal.τ).loc Cert.XBlkRefIdeal.main_arg1) = m' ((c.tc : Thread Cert.XBlkRefIdeal.nD Cert.XBlkRefIdeal.τ).loc Cert.XBlkRefIdeal.main_arg1)
          ∧ r.2.mem ((c.tc : Thread Cert.XBlkRefIdeal.nD Cert.XBlkRefIdeal.τ).loc Cert.XBlkRefIdeal.main_arg2) = m' ((c.tc : Thread Cert.XBlkRefIdeal.nD Cert.XBlkRefIdeal.τ).loc Cert.XBlkRefIdeal.main_arg2))

def preserves_DyBlk_DyBlkIdeal : Prop :=
  IdealRules.bf16_pair.Statement Cert.DyBlkIdeal.S8x2x128 Cert.DyBlkIdeal.S8x1x128
  ∧ IdealRules.bf16_pair.Statement Cert.DyBlkIdeal.S16x128 Cert.DyBlkIdeal.S8x128

def algebraic_DyBlkIdeal_DyBlkRefIdeal_pre_dy_scale_positive [hDyBlkIdeal : Cert.DyBlkIdeal.Facts] [hDyBlkRefIdeal : Cert.DyBlkRefIdeal.Facts] [hPre_dy_scale_positive : Cert.Pre_dy_scale_positive.Facts] : Prop :=
  ∀ (m : (ℓ : Loc Cert.DyBlkIdeal.nD Cert.DyBlkIdeal.τ Cert.DyBlkIdeal.sig) → Buf (Elt Ideal) ℓ) (g : Dev Cert.DyBlkIdeal.nD → PrngReg)
    (m' : (ℓ : Loc Cert.DyBlkRefIdeal.nD Cert.DyBlkRefIdeal.τ Cert.DyBlkRefIdeal.sig) → Buf (Elt Ideal) ℓ) (g' : Dev Cert.DyBlkRefIdeal.nD → PrngReg), Pre_DyBlkIdeal_dy_scale_positive m →
    (∀ c : Dev Cert.DyBlkIdeal.nD,
      m' ((c.tc : Thread Cert.DyBlkRefIdeal.nD Cert.DyBlkRefIdeal.τ).loc Cert.DyBlkRefIdeal.main_arg0) = m ((c.tc : Thread Cert.DyBlkIdeal.nD Cert.DyBlkIdeal.τ).loc Cert.DyBlkIdeal.main_arg0)
      ∧ m' ((c.tc : Thread Cert.DyBlkRefIdeal.nD Cert.DyBlkRefIdeal.τ).loc Cert.DyBlkRefIdeal.main_arg1) = m ((c.tc : Thread Cert.DyBlkIdeal.nD Cert.DyBlkIdeal.τ).loc Cert.DyBlkIdeal.main_arg1)
      ∧ m' ((c.tc : Thread Cert.DyBlkRefIdeal.nD Cert.DyBlkRefIdeal.τ).loc Cert.DyBlkRefIdeal.main_arg2) = m ((c.tc : Thread Cert.DyBlkIdeal.nD Cert.DyBlkIdeal.τ).loc Cert.DyBlkIdeal.main_arg2)
      ∧ m' ((c.tc : Thread Cert.DyBlkRefIdeal.nD Cert.DyBlkRefIdeal.τ).loc Cert.DyBlkRefIdeal.main_arg3) = m ((c.tc : Thread Cert.DyBlkIdeal.nD Cert.DyBlkIdeal.τ).loc Cert.DyBlkIdeal.main_arg3)) →
    ∃ (v0 : (c : Dev Cert.DyBlkIdeal.nD) → Buf (Elt Ideal) ((c.tc : Thread Cert.DyBlkIdeal.nD Cert.DyBlkIdeal.τ).loc Cert.DyBlkIdeal.main_v8_1)),
      θ_run (Cert.DyBlkIdeal.defs (F := Ideal)) (onTc (τ := Cert.DyBlkIdeal.τ) (Cert.DyBlkIdeal.main (F := Ideal))) ⟨m, fun _ => 0, g⟩ (fun r => ∀ c : Dev Cert.DyBlkIdeal.nD,
          r.2.mem ((c.tc : Thread Cert.DyBlkIdeal.nD Cert.DyBlkIdeal.τ).loc Cert.DyBlkIdeal.main_v8_1) = v0 c
          ∧ r.2.mem ((c.tc : Thread Cert.DyBlkIdeal.nD Cert.DyBlkIdeal.τ).loc Cert.DyBlkIdeal.main_arg0) = m ((c.tc : Thread Cert.DyBlkIdeal.nD Cert.DyBlkIdeal.τ).loc Cert.DyBlkIdeal.main_arg0)
          ∧ r.2.mem ((c.tc : Thread Cert.DyBlkIdeal.nD Cert.DyBlkIdeal.τ).loc Cert.DyBlkIdeal.main_arg1) = m ((c.tc : Thread Cert.DyBlkIdeal.nD Cert.DyBlkIdeal.τ).loc Cert.DyBlkIdeal.main_arg1)
          ∧ r.2.mem ((c.tc : Thread Cert.DyBlkIdeal.nD Cert.DyBlkIdeal.τ).loc Cert.DyBlkIdeal.main_arg2) = m ((c.tc : Thread Cert.DyBlkIdeal.nD Cert.DyBlkIdeal.τ).loc Cert.DyBlkIdeal.main_arg2)
          ∧ r.2.mem ((c.tc : Thread Cert.DyBlkIdeal.nD Cert.DyBlkIdeal.τ).loc Cert.DyBlkIdeal.main_arg3) = m ((c.tc : Thread Cert.DyBlkIdeal.nD Cert.DyBlkIdeal.τ).loc Cert.DyBlkIdeal.main_arg3))
      ∧ θ_run (Cert.DyBlkRefIdeal.defs (F := Ideal)) (onTc (τ := Cert.DyBlkRefIdeal.τ) (Cert.DyBlkRefIdeal.main (F := Ideal))) ⟨m', fun _ => 0, g'⟩ (fun r => ∀ c : Dev Cert.DyBlkRefIdeal.nD,
          r.2.mem ((c.tc : Thread Cert.DyBlkRefIdeal.nD Cert.DyBlkRefIdeal.τ).loc Cert.DyBlkRefIdeal.main_v31) = v0 c
          ∧ r.2.mem ((c.tc : Thread Cert.DyBlkRefIdeal.nD Cert.DyBlkRefIdeal.τ).loc Cert.DyBlkRefIdeal.main_arg0) = m' ((c.tc : Thread Cert.DyBlkRefIdeal.nD Cert.DyBlkRefIdeal.τ).loc Cert.DyBlkRefIdeal.main_arg0)
          ∧ r.2.mem ((c.tc : Thread Cert.DyBlkRefIdeal.nD Cert.DyBlkRefIdeal.τ).loc Cert.DyBlkRefIdeal.main_arg1) = m' ((c.tc : Thread Cert.DyBlkRefIdeal.nD Cert.DyBlkRefIdeal.τ).loc Cert.DyBlkRefIdeal.main_arg1)
          ∧ r.2.mem ((c.tc : Thread Cert.DyBlkRefIdeal.nD Cert.DyBlkRefIdeal.τ).loc Cert.DyBlkRefIdeal.main_arg2) = m' ((c.tc : Thread Cert.DyBlkRefIdeal.nD Cert.DyBlkRefIdeal.τ).loc Cert.DyBlkRefIdeal.main_arg2)
          ∧ r.2.mem ((c.tc : Thread Cert.DyBlkRefIdeal.nD Cert.DyBlkRefIdeal.τ).loc Cert.DyBlkRefIdeal.main_arg3) = m' ((c.tc : Thread Cert.DyBlkRefIdeal.nD Cert.DyBlkRefIdeal.τ).loc Cert.DyBlkRefIdeal.main_arg3))

def Claim : Prop :=
  ∃ (hWgrad : Cert.Wgrad.Facts) (hWgradIdeal : Cert.WgradIdeal.Facts) (hWgradRefIdeal : Cert.WgradRefIdeal.Facts) (hDyScale : Cert.DyScale.Facts) (hDyScaleIdeal : Cert.DyScaleIdeal.Facts) (hDyScaleRefIdeal : Cert.DyScaleRefIdeal.Facts) (hXScale : Cert.XScale.Facts) (hXScaleIdeal : Cert.XScaleIdeal.Facts) (hXScaleRefIdeal : Cert.XScaleRefIdeal.Facts) (hQuantSr : Cert.QuantSr.Facts) (hQuantRn : Cert.QuantRn.Facts) (hXBlk : Cert.XBlk.Facts) (hXBlkIdeal : Cert.XBlkIdeal.Facts) (hXBlkRefIdeal : Cert.XBlkRefIdeal.Facts) (hDyBlk : Cert.DyBlk.Facts) (hDyBlkIdeal : Cert.DyBlkIdeal.Facts) (hDyBlkRefIdeal : Cert.DyBlkRefIdeal.Facts) (hPre_x_scale_positive : Cert.Pre_x_scale_positive.Facts) (hPre_dy_scale_positive : Cert.Pre_dy_scale_positive.Facts),
    quiescent_Wgrad (hWgrad := hWgrad)
    ∧ quiescent_WgradIdeal (hWgradIdeal := hWgradIdeal)
    ∧ quiescent_WgradRefIdeal (hWgradRefIdeal := hWgradRefIdeal)
    ∧ quiescent_DyScale (hDyScale := hDyScale)
    ∧ quiescent_DyScaleIdeal (hDyScaleIdeal := hDyScaleIdeal)
    ∧ quiescent_DyScaleRefIdeal (hDyScaleRefIdeal := hDyScaleRefIdeal)
    ∧ quiescent_XScale (hXScale := hXScale)
    ∧ quiescent_XScaleIdeal (hXScaleIdeal := hXScaleIdeal)
    ∧ quiescent_XScaleRefIdeal (hXScaleRefIdeal := hXScaleRefIdeal)
    ∧ quiescent_QuantSr (hQuantSr := hQuantSr)
    ∧ quiescent_QuantRn (hQuantRn := hQuantRn)
    ∧ quiescent_XBlk (hXBlk := hXBlk)
    ∧ quiescent_XBlkIdeal (hXBlkIdeal := hXBlkIdeal)
    ∧ quiescent_XBlkIdeal_pre_x_scale_positive (hXBlkIdeal := hXBlkIdeal) (hPre_x_scale_positive := hPre_x_scale_positive)
    ∧ quiescent_XBlkRefIdeal (hXBlkRefIdeal := hXBlkRefIdeal)
    ∧ quiescent_XBlkRefIdeal_pre_x_scale_positive (hXBlkRefIdeal := hXBlkRefIdeal) (hPre_x_scale_positive := hPre_x_scale_positive)
    ∧ quiescent_DyBlk (hDyBlk := hDyBlk)
    ∧ quiescent_DyBlkIdeal (hDyBlkIdeal := hDyBlkIdeal)
    ∧ quiescent_DyBlkIdeal_pre_dy_scale_positive (hDyBlkIdeal := hDyBlkIdeal) (hPre_dy_scale_positive := hPre_dy_scale_positive)
    ∧ quiescent_DyBlkRefIdeal (hDyBlkRefIdeal := hDyBlkRefIdeal)
    ∧ quiescent_DyBlkRefIdeal_pre_dy_scale_positive (hDyBlkRefIdeal := hDyBlkRefIdeal) (hPre_dy_scale_positive := hPre_dy_scale_positive)
    ∧ preserves_Wgrad_WgradIdeal
    ∧ algebraic_WgradIdeal_WgradRefIdeal (hWgradIdeal := hWgradIdeal) (hWgradRefIdeal := hWgradRefIdeal)
    ∧ preserves_DyScale_DyScaleIdeal
    ∧ algebraic_DyScaleIdeal_DyScaleRefIdeal (hDyScaleIdeal := hDyScaleIdeal) (hDyScaleRefIdeal := hDyScaleRefIdeal)
    ∧ preserves_XScale_XScaleIdeal
    ∧ algebraic_XScaleIdeal_XScaleRefIdeal (hXScaleIdeal := hXScaleIdeal) (hXScaleRefIdeal := hXScaleRefIdeal)
    ∧ preserves_XBlk_XBlkIdeal
    ∧ algebraic_XBlkIdeal_XBlkRefIdeal_pre_x_scale_positive (hXBlkIdeal := hXBlkIdeal) (hXBlkRefIdeal := hXBlkRefIdeal) (hPre_x_scale_positive := hPre_x_scale_positive)
    ∧ preserves_DyBlk_DyBlkIdeal
    ∧ algebraic_DyBlkIdeal_DyBlkRefIdeal_pre_dy_scale_positive (hDyBlkIdeal := hDyBlkIdeal) (hDyBlkRefIdeal := hDyBlkRefIdeal) (hPre_dy_scale_positive := hPre_dy_scale_positive)
-- ==== Pre_dy_scale_positive.lean ====
abbrev S12288x14336 : Shape := ⟨2, ![12288, 14336]⟩
abbrev S16 : Shape := ⟨1, ![16]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S12288x14336 .bf16) (main_arg1 : FVec F S16 .f32) (main_arg2 : FVec F S1 .f32) (main_arg3 : IVec S12288x14336 32) : IVec S1 1 :=
  let main_cst : FVec F S_ .f32 := constant S_ .f32 0x00000000#32
  let main_v0 : FVec F S1 .f32 := broadcastInDim S1 ![] bcast_S_S1 main_cst
  let main_v1 : IVec S1 1 := cmpf .ogt main_arg2 main_v0
  main_v1
-- ==== Pre_x_scale_positive.lean ====
abbrev S12288x4096 : Shape := ⟨2, ![12288, 4096]⟩
abbrev S16 : Shape := ⟨1, ![16]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S12288x4096 .bf16) (main_arg1 : FVec F S16 .f32) (main_arg2 : FVec F S1 .f32) : IVec S1 1 :=
  let main_cst : FVec F S_ .f32 := constant S_ .f32 0x00000000#32
  let main_v0 : FVec F S1 .f32 := broadcastInDim S1 ![] bcast_S_S1 main_cst
  let main_v1 : IVec S1 1 := cmpf .ogt main_arg2 main_v0
  main_v1
-- ==== Wgrad.lean ====
abbrev S1 : Shape := ⟨1, ![1]⟩
abbrev S12288x14336 : Shape := ⟨2, ![12288, 14336]⟩
abbrev S12288x4096 : Shape := ⟨2, ![12288, 4096]⟩
abbrev S14336x4096 : Shape := ⟨2, ![14336, 4096]⟩
abbrev S1024x1024 : Shape := ⟨2, ![1024, 1024]⟩
abbrev S1024x2048 : Shape := ⟨2, ![1024, 2048]⟩

abbrev nBuf : Space → Nat
  | .hbm => 5
  | .vmem => 7
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S12288x14336, .bf16⟩
  | .hbm, ⟨3, _⟩ => ⟨S12288x4096, .bf16⟩
  | .hbm, ⟨4, _⟩ => ⟨S14336x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![14, 2, 12], ![false, false, false]⟩

def k0_cond2 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== WgradRefIdeal.lean ====
abbrev S1 : Shape := ⟨1, ![1]⟩
abbrev S12288x14336 : Shape := ⟨2, ![12288, 14336]⟩
abbrev S12288x4096 : Shape := ⟨2, ![12288, 4096]⟩
abbrev S14336x4096 : Shape := ⟨2, ![14336, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S12288x14336, .bf16⟩
  | .hbm, ⟨3, _⟩ => ⟨S12288x4096, .bf16⟩
  | .hbm, ⟨4, _⟩ => ⟨S14336x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S14336x4096, .f32⟩
  | .hbm, ⟨9, _⟩ => ⟨S14336x4096, .f32⟩
  | .hbm, ⟨10, _⟩ => ⟨S14336x4096, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DyScale.lean ====
abbrev S8x1536x14336 : Shape := ⟨3, ![8, 1536, 14336]⟩
abbrev S16 : Shape := ⟨1, ![16]⟩
abbrev S12288x14336 : Shape := ⟨2, ![12288, 14336]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S1 : Shape := ⟨1, ![1]⟩
abbrev S256x14336 : Shape := ⟨2, ![256, 14336]⟩
abbrev S8x14336 : Shape := ⟨2, ![8, 14336]⟩
abbrev S32x8x14336 : Shape := ⟨3, ![32, 8, 14336]⟩
abbrev S1x8x14336 : Shape := ⟨3, ![1, 8, 14336]⟩
abbrev S1x1x1 : Shape := ⟨3, ![1, 1, 1]⟩

abbrev nBuf : Space → Nat
  | .hbm => 43
  | .vmem => 4
  | .smem => 1
  | _ => 0

abbrev bufTy : (tb : Table) → Fin (tcTables nBuf tb) → BufTy
  | .hbm, ⟨0, _⟩ => ⟨S8x1536x14336, .bf16⟩
  | .hbm, ⟨1, _⟩ => ⟨S16, .f32⟩
  | .hbm, ⟨2, _⟩ => ⟨S12288x14336, .bf16⟩
  | .hbm, ⟨3, _⟩ => ⟨S16, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i1⟩
  | .hbm, ⟨16, _⟩ => ⟨S_, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S1x16, .f32⟩
  | .hbm, ⟨26, _⟩ => ⟨S16x16, .f32⟩
  | .hbm, ⟨27, _⟩ => ⟨S16x16, .f32⟩
  | .hbm, ⟨28, _⟩ => ⟨S16x16, .i32⟩
  | .hbm, ⟨29, _⟩ => ⟨S16x16, .i32⟩
  | .hbm, ⟨30, _⟩ => ⟨S_, .i32⟩
  | .hbm, ⟨31, _⟩ => ⟨S16x16, .i32⟩
  | .hbm, ⟨32, _⟩ => ⟨S16x16, .i32⟩
  | .hbm, ⟨33, _⟩ => ⟨S16x16, .i1⟩
  | .hbm, ⟨34, _⟩ => ⟨S16x16, .f32⟩
  | .hbm, ⟨35, _⟩ => ⟨S16x1x16x1, .f32⟩
  | .hbm, ⟨36, _⟩ => ⟨S1x16x1x16, .f32⟩
  | .hbm, ⟨37, _⟩ => ⟨S16x16x16x16, .f32⟩
  | .hbm, ⟨38, _⟩ => ⟨S16x16x16x16, .f32⟩
  | .hbm, ⟨39, _⟩ => ⟨S16x16x16x16, .f32⟩
  | .hbm, ⟨40, _⟩ => ⟨S256x256, .f32⟩
  | .hbm, ⟨41, _⟩ => ⟨S256x256, .bf16⟩
  | .hbm, ⟨42, _⟩ => ⟨S1, .f32⟩
  | .local _ .vmem, ⟨0, _⟩ => ⟨S256x256, .bf16⟩
  | .local _ .vmem, ⟨1, _⟩ => ⟨S256x14336, .bf16⟩
  | .local _ .vmem, ⟨2, _⟩ => ⟨S256x14336, .bf16⟩
  | .local _ .vmem, ⟨3, _⟩ => ⟨S8x14336, .f32⟩
  | .local _ .smem, ⟨0, _⟩ => ⟨S1, .f32⟩
  | _, _ => ⟨S8x1536x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v16 : BitVec 1 := Scalar.cmpi .eq arg0 c47_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x14336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DyScaleIdeal.lean ====
abbrev S8x1536x14336 : Shape := ⟨3, ![8, 1536, 14336]⟩
abbrev S16 : Shape := ⟨1, ![16]⟩
abbrev S12288x14336 : Shape := ⟨2, ![12288, 14336]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S1 : Shape := ⟨1, ![1]⟩
abbrev S256x14336 : Shape := ⟨2, ![256, 14336]⟩
abbrev S8x14336 : Shape := ⟨2, ![8, 14336]⟩
abbrev S32x8x14336 : Shape := ⟨3, ![32, 8, 14336]⟩
abbrev S1x8x14336 : Shape := ⟨3, ![1, 8, 14336]⟩
abbrev S1x1x1 : Shape := ⟨3, ![1, 1, 1]⟩

abbrev nBuf : Space → Nat
  | .hbm => 43
  | .vmem => 4
  | .smem => 1
  | _ => 0

abbrev bufTy : (tb : Table) → Fin (tcTables nBuf tb) → BufTy
  | .hbm, ⟨0, _⟩ => ⟨S8x1536x14336, .bf16⟩
  | .hbm, ⟨1, _⟩ => ⟨S16, .f32⟩
  | .hbm, ⟨2, _⟩ => ⟨S12288x14336, .bf16⟩
  | .hbm, ⟨3, _⟩ => ⟨S16, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i1⟩
  | .hbm, ⟨16, _⟩ => ⟨S_, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S1x16, .f32⟩
  | .hbm, ⟨26, _⟩ => ⟨S16x16, .f32⟩
  | .hbm, ⟨27, _⟩ => ⟨S16x16, .f32⟩
  | .hbm, ⟨28, _⟩ => ⟨S16x16, .i32⟩
  | .hbm, ⟨29, _⟩ => ⟨S16x16, .i32⟩
  | .hbm, ⟨30, _⟩ => ⟨S_, .i32⟩
  | .hbm, ⟨31, _⟩ => ⟨S16x16, .i32⟩
  | .hbm, ⟨32, _⟩ => ⟨S16x16, .i32⟩
  | .hbm, ⟨33, _⟩ => ⟨S16x16, .i1⟩
  | .hbm, ⟨34, _⟩ => ⟨S16x16, .f32⟩
  | .hbm, ⟨35, _⟩ => ⟨S16x1x16x1, .f32⟩
  | .hbm, ⟨36, _⟩ => ⟨S1x16x1x16, .f32⟩
  | .hbm, ⟨37, _⟩ => ⟨S16x16x16x16, .f32⟩
  | .hbm, ⟨38, _⟩ => ⟨S16x16x16x16, .f32⟩
  | .hbm, ⟨39, _⟩ => ⟨S16x16x16x16, .f32⟩
  | .hbm, ⟨40, _⟩ => ⟨S256x256, .f32⟩
  | .hbm, ⟨41, _⟩ => ⟨S256x256, .bf16⟩
  | .hbm, ⟨42, _⟩ => ⟨S1, .f32⟩
  | .local _ .vmem, ⟨0, _⟩ => ⟨S256x256, .bf16⟩
  | .local _ .vmem, ⟨1, _⟩ => ⟨S256x14336, .bf16⟩
  | .local _ .vmem, ⟨2, _⟩ => ⟨S256x14336, .bf16⟩
  | .local _ .vmem, ⟨3, _⟩ => ⟨S8x14336, .f32⟩
  | .local _ .smem, ⟨0, _⟩ => ⟨S1, .f32⟩
  | _, _ => ⟨S8x1536x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v16 : BitVec 1 := Scalar.cmpi .eq arg0 c47_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x14336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DyScaleRefIdeal.lean ====
abbrev S8x1536x14336 : Shape := ⟨3, ![8, 1536, 14336]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S768x16x14336 : Shape := ⟨3, ![768, 16, 14336]⟩
abbrev S768x14336x16 : Shape := ⟨3, ![768, 14336, 16]⟩
abbrev S14336x768x16 : Shape := ⟨3, ![14336, 768, 16]⟩
abbrev S14336x768 : Shape := ⟨2, ![14336, 768]⟩
abbrev S1 : Shape := ⟨1, ![1]⟩

abbrev nBuf : Space → Nat
  | .hbm => 44
  | .vmem => 0
  | .smem => 0
  | _ => 0

abbrev bufTy : (tb : Table) → Fin (tcTables nBuf tb) → BufTy
  | .hbm, ⟨0, _⟩ => ⟨S8x1536x14336, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i1⟩
  | .hbm, ⟨15, _⟩ => ⟨S_, .f32⟩
  | .hbm, ⟨16, _⟩ => ⟨S_, .f32⟩
  | .hbm, ⟨17, _⟩ => ⟨S16x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x16, .f32⟩
  | .hbm, ⟨24, _⟩ => ⟨S1x16, .f32⟩
  | .hbm, ⟨25, _⟩ => ⟨S16x16, .f32⟩
  | .hbm, ⟨26, _⟩ => ⟨S16x16, .f32⟩
  | .hbm, ⟨27, _⟩ => ⟨S8x1536x14336, .f32⟩
  | .hbm, ⟨28, _⟩ => ⟨S768x16x14336, .f32⟩
  | .hbm, ⟨29, _⟩ => ⟨S768x14336x16, .f32⟩
  | .hbm, ⟨30, _⟩ => ⟨S14336x768x16, .f32⟩
  | .hbm, ⟨31, _⟩ => ⟨S14336x768x16, .f32⟩
  | .hbm, ⟨32, _⟩ => ⟨S_, .f32⟩
  | .hbm, ⟨33, _⟩ => ⟨S14336x768, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | _, _ => ⟨S8x1536x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== XScale.lean ====
abbrev S8x1536x4096 : Shape := ⟨3, ![8, 1536, 4096]⟩
abbrev S16 : Shape := ⟨1, ![16]⟩
abbrev S12288x4096 : Shape := ⟨2, ![12288, 4096]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S1 : Shape := ⟨1, ![1]⟩
abbrev S256x4096 : Shape := ⟨2, ![256, 4096]⟩
abbrev S8x4096 : Shape := ⟨2, ![8, 4096]⟩
abbrev S32x8x4096 : Shape := ⟨3, ![32, 8, 4096]⟩
abbrev S1x8x4096 : Shape := ⟨3, ![1, 8, 4096]⟩
abbrev S1x1x1 : Shape := ⟨3, ![1, 1, 1]⟩

abbrev nBuf : Space → Nat
  | .hbm => 43
  | .vmem => 4
  | .smem => 1
  | _ => 0

abbrev bufTy : (tb : Table) → Fin (tcTables nBuf tb) → BufTy
  | .hbm, ⟨0, _⟩ => ⟨S8x1536x4096, .bf16⟩
  | .hbm, ⟨1, _⟩ => ⟨S16, .f32⟩
  | .hbm, ⟨2, _⟩ => ⟨S12288x4096, .bf16⟩
  | .hbm, ⟨3, _⟩ => ⟨S16, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i1⟩
  | .hbm, ⟨16, _⟩ => ⟨S_, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S1x16, .f32⟩
  | .hbm, ⟨26, _⟩ => ⟨S16x16, .f32⟩
  | .hbm, ⟨27, _⟩ => ⟨S16x16, .f32⟩
  | .hbm, ⟨28, _⟩ => ⟨S16x16, .i32⟩
  | .hbm, ⟨29, _⟩ => ⟨S16x16, .i32⟩
  | .hbm, ⟨30, _⟩ => ⟨S_, .i32⟩
  | .hbm, ⟨31, _⟩ => ⟨S16x16, .i32⟩
  | .hbm, ⟨32, _⟩ => ⟨S16x16, .i32⟩
  | .hbm, ⟨33, _⟩ => ⟨S16x16, .i1⟩
  | .hbm, ⟨34, _⟩ => ⟨S16x16, .f32⟩
  | .hbm, ⟨35, _⟩ => ⟨S16x1x16x1, .f32⟩
  | .hbm, ⟨36, _⟩ => ⟨S1x16x1x16, .f32⟩
  | .hbm, ⟨37, _⟩ => ⟨S16x16x16x16, .f32⟩
  | .hbm, ⟨38, _⟩ => ⟨S16x16x16x16, .f32⟩
  | .hbm, ⟨39, _⟩ => ⟨S16x16x16x16, .f32⟩
  | .hbm, ⟨40, _⟩ => ⟨S256x256, .f32⟩
  | .hbm, ⟨41, _⟩ => ⟨S256x256, .bf16⟩
  | .hbm, ⟨42, _⟩ => ⟨S1, .f32⟩
  | .local _ .vmem, ⟨0, _⟩ => ⟨S256x256, .bf16⟩
  | .local _ .vmem, ⟨1, _⟩ => ⟨S256x4096, .bf16⟩
  | .local _ .vmem, ⟨2, _⟩ => ⟨S256x4096, .bf16⟩
  | .local _ .vmem, ⟨3, _⟩ => ⟨S8x4096, .f32⟩
  | .local _ .smem, ⟨0, _⟩ => ⟨S1, .f32⟩
  | _, _ => ⟨S8x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v16 : BitVec 1 := Scalar.cmpi .eq arg0 c47_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== XScaleRefIdeal.lean ====
abbrev S8x1536x4096 : Shape := ⟨3, ![8, 1536, 4096]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S768x16x4096 : Shape := ⟨3, ![768, 16, 4096]⟩
abbrev S768x4096x16 : Shape := ⟨3, ![768, 4096, 16]⟩
abbrev S4096x768x16 : Shape := ⟨3, ![4096, 768, 16]⟩
abbrev S4096x768 : Shape := ⟨2, ![4096, 768]⟩
abbrev S1 : Shape := ⟨1, ![1]⟩

abbrev nBuf : Space → Nat
  | .hbm => 44
  | .vmem => 0
  | .smem => 0
  | _ => 0

abbrev bufTy : (tb : Table) → Fin (tcTables nBuf tb) → BufTy
  | .hbm, ⟨0, _⟩ => ⟨S8x1536x4096, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i1⟩
  | .hbm, ⟨15, _⟩ => ⟨S_, .f32⟩
  | .hbm, ⟨16, _⟩ => ⟨S_, .f32⟩
  | .hbm, ⟨17, _⟩ => ⟨S16x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x16, .f32⟩
  | .hbm, ⟨24, _⟩ => ⟨S1x16, .f32⟩
  | .hbm, ⟨25, _⟩ => ⟨S16x16, .f32⟩
  | .hbm, ⟨26, _⟩ => ⟨S16x16, .f32⟩
  | .hbm, ⟨27, _⟩ => ⟨S8x1536x4096, .f32⟩
  | .hbm, ⟨28, _⟩ => ⟨S768x16x4096, .f32⟩
  | .hbm, ⟨29, _⟩ => ⟨S768x4096x16, .f32⟩
  | .hbm, ⟨30, _⟩ => ⟨S4096x768x16, .f32⟩
  | .hbm, ⟨31, _⟩ => ⟨S4096x768x16, .f32⟩
  | .hbm, ⟨32, _⟩ => ⟨S_, .f32⟩
  | .hbm, ⟨33, _⟩ => ⟨S4096x768, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | _, _ => ⟨S8x1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== QuantSr.lean ====
abbrev S12288x14336 : Shape := ⟨2, ![12288, 14336]⟩
abbrev S1 : Shape := ⟨1, ![1]⟩
abbrev S128x128 : Shape := ⟨2, ![128, 128]⟩
abbrev S14336x6144 : Shape := ⟨2, ![14336, 6144]⟩
abbrev S14336x768 : Shape := ⟨2, ![14336, 768]⟩
abbrev S2048x128 : Shape := ⟨2, ![2048, 128]⟩
abbrev S128x1024 : Shape := ⟨2, ![128, 1024]⟩
abbrev S256x128 : Shape := ⟨2, ![256, 128]⟩
abbrev S1024x128 : Shape := ⟨2, ![1024, 128]⟩
abbrev S8x128 : Shape := ⟨2, ![8, 128]⟩
abbrev S1024x2x128 : Shape := ⟨3, ![1024, 2, 128]⟩
abbrev S8x2x128 : Shape := ⟨3, ![8, 2, 128]⟩
abbrev S8x1x128 : Shape := ⟨3, ![8, 1, 128]⟩
abbrev S16x128 : Shape := ⟨2, ![16, 128]⟩
abbrev S32x128 : Shape := ⟨2, ![32, 128]⟩
abbrev S128x256 : Shape := ⟨2, ![128, 256]⟩

abbrev nBuf : Space → Nat
  | .hbm => 7
  | .vmem => 13
  | .smem => 1
  | _ => 0

abbrev bufTy : (tb : Table) → Fin (tcTables nBuf tb) → BufTy
  | .hbm, ⟨0, _⟩ => ⟨S12288x14336, .bf16⟩
  | .hbm, ⟨1, _⟩ => ⟨S12288x14336, .i32⟩
  | .hbm, ⟨2, _⟩ => ⟨S1, .f32⟩
  | .hbm, ⟨3, _⟩ => ⟨S128x128, .bf16⟩
  | .hbm, ⟨4, _⟩ => ⟨S14336x6144, .i8⟩
  | .hbm, ⟨5, _⟩ => ⟨S14336x768, .fp8e4m3⟩
  | .hbm, ⟨6, _⟩ => ⟨S12288x14336, .bf16⟩
  | .local _ .vmem, ⟨0, _⟩ => ⟨S128x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .i32⟩
  | .local _ .vmem, ⟨4, _⟩ => ⟨S2048x128, .i32⟩
  | .local _ .vmem, ⟨5, _⟩ => ⟨S128x1024, .i8⟩
  | .local _ .vmem, ⟨6, _⟩ => ⟨S128x1024, .i8⟩
  | .local _ .vmem, ⟨7, _⟩ => ⟨S128x128, .fp8e4m3⟩
  | .local _ .vmem, ⟨8, _⟩ => ⟨S128x128, .fp8e4m3⟩
  | .local _ .vmem, ⟨9, _⟩ => ⟨S2048x128, .bf16⟩
  | .local _ .vmem, ⟨10, _⟩ => ⟨S2048x128, .bf16⟩
  | .local _ .vmem, ⟨11, _⟩ => ⟨S256x128, .i32⟩
  | .local _ .vmem, ⟨12, _⟩ => ⟨S128x128, .i32⟩
  | .local _ .smem, ⟨0, _⟩ => ⟨S1, .f32⟩
  | _, _ => ⟨S12288x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![112, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QuantRn.lean ====
abbrev S12288x4096 : Shape := ⟨2, ![12288, 4096]⟩
abbrev S1 : Shape := ⟨1, ![1]⟩
abbrev S128x128 : Shape := ⟨2, ![128, 128]⟩
abbrev S4096x6144 : Shape := ⟨2, ![4096, 6144]⟩
abbrev S4096x768 : Shape := ⟨2, ![4096, 768]⟩
abbrev S2048x128 : Shape := ⟨2, ![2048, 128]⟩
abbrev S128x1024 : Shape := ⟨2, ![128, 1024]⟩
abbrev S256x128 : Shape := ⟨2, ![256, 128]⟩
abbrev S1024x128 : Shape := ⟨2, ![1024, 128]⟩
abbrev S8x128 : Shape := ⟨2, ![8, 128]⟩
abbrev S1024x2x128 : Shape := ⟨3, ![1024, 2, 128]⟩
abbrev S8x2x128 : Shape := ⟨3, ![8, 2, 128]⟩
abbrev S8x1x128 : Shape := ⟨3, ![8, 1, 128]⟩
abbrev S16x128 : Shape := ⟨2, ![16, 128]⟩
abbrev S32x128 : Shape := ⟨2, ![32, 128]⟩
abbrev S128x256 : Shape := ⟨2, ![128, 256]⟩

abbrev nBuf : Space → Nat
  | .hbm => 6
  | .vmem => 11
  | .smem => 1
  | _ => 0

abbrev bufTy : (tb : Table) → Fin (tcTables nBuf tb) → BufTy
  | .hbm, ⟨0, _⟩ => ⟨S12288x4096, .bf16⟩
  | .hbm, ⟨1, _⟩ => ⟨S1, .f32⟩
  | .hbm, ⟨2, _⟩ => ⟨S128x128, .bf16⟩
  | .hbm, ⟨3, _⟩ => ⟨S4096x6144, .i8⟩
  | .hbm, ⟨4, _⟩ => ⟨S4096x768, .fp8e4m3⟩
  | .hbm, ⟨5, _⟩ => ⟨S12288x4096, .bf16⟩
  | .local _ .vmem, ⟨0, _⟩ => ⟨S128x128, .bf16⟩
  | .local _ .vmem, ⟨1, _⟩ => ⟨S2048x128, .bf16⟩
  | .local _ .vmem, ⟨2, _⟩ => ⟨S2048x128, .bf16⟩
  | .local _ .vmem, ⟨3, _⟩ => ⟨S128x1024, .i8⟩
  | .local _ .vmem, ⟨4, _⟩ => ⟨S128x1024, .i8⟩
  | .local _ .vmem, ⟨5, _⟩ => ⟨S128x128, .fp8e4m3⟩
  | .local _ .vmem, ⟨6, _⟩ => ⟨S128x128, .fp8e4m3⟩
  | .local _ .vmem, ⟨7, _⟩ => ⟨S2048x128, .bf16⟩
  | .local _ .vmem, ⟨8, _⟩ => ⟨S2048x128, .bf16⟩
  | .local _ .vmem, ⟨9, _⟩ => ⟨S256x128, .i32⟩
  | .local _ .vmem, ⟨10, _⟩ => ⟨S128x128, .i32⟩
  | .local _ .smem, ⟨0, _⟩ => ⟨S1, .f32⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![32, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XBlk.lean ====
abbrev S12288x4096 : Shape := ⟨2, ![12288, 4096]⟩
abbrev S16 : Shape := ⟨1, ![16]⟩
abbrev S1 : Shape := ⟨1, ![1]⟩
abbrev S_ : Shape := ⟨0, ![]⟩
abbrev S8x2 : Shape := ⟨2, ![8, 2]⟩
abbrev S8x1x2 : Shape := ⟨3, ![8, 1, 2]⟩
abbrev S8x8x2 : Shape := ⟨3, ![8, 8, 2]⟩
abbrev S128x1 : Shape := ⟨2, ![128, 1]⟩
abbrev S128x128 : Shape := ⟨2, ![128, 128]⟩
abbrev S4096x6144 : Shape := ⟨2, ![4096, 6144]⟩
abbrev S4096x768 : Shape := ⟨2, ![4096, 768]⟩
abbrev S2048x128 : Shape := ⟨2, ![2048, 128]⟩
abbrev S128x1024 : Shape := ⟨2, ![128, 1024]⟩
abbrev S256x128 : Shape := ⟨2, ![256, 128]⟩
abbrev S1024x128 : Shape := ⟨2, ![1024, 128]⟩
abbrev S8x128 : Shape := ⟨2, ![8, 128]⟩
abbrev S1024x2x128 : Shape := ⟨3, ![1024, 2, 128]⟩
abbrev S8x2x128 : Shape := ⟨3, ![8, 2, 128]⟩
abbrev S8x1x128 : Shape := ⟨3, ![8, 1, 128]⟩
abbrev S16x128 : Shape := ⟨2, ![16, 128]⟩
abbrev S8x4x128 : Shape := ⟨3, ![8, 4, 128]⟩
abbrev S32x128 : Shape := ⟨2, ![32, 128]⟩
abbrev S128x256 : Shape := ⟨2, ![128, 256]⟩

abbrev nBuf : Space → Nat
  | .hbm => 15
  | .vmem => 11
  | .smem => 1
  | _ => 0

abbrev bufTy : (tb : Table) → Fin (tcTables nBuf tb) → BufTy
  | .hbm, ⟨0, _⟩ => ⟨S12288x4096, .bf16⟩
  | .hbm, ⟨1, _⟩ => ⟨S16, .f32⟩
  | .hbm, ⟨2, _⟩ => ⟨S1, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S16, .bf16⟩
  | .hbm, ⟨7, _⟩ => ⟨S8x2, .bf16⟩
  | .hbm, ⟨8, _⟩ => ⟨S8x1x2, .bf16⟩
  | .hbm, ⟨9, _⟩ => ⟨S8x8x2, .bf16⟩
  | .hbm, ⟨10, _⟩ => ⟨S128x1, .bf16⟩
  | .hbm, ⟨11, _⟩ => ⟨S128x128, .bf16⟩
  | .hbm, ⟨12, _⟩ => ⟨S4096x6144, .i8⟩
  | .hbm, ⟨13, _⟩ => ⟨S4096x768, .fp8e4m3⟩
  | .hbm, ⟨14, _⟩ => ⟨S12288x4096, .bf16⟩
  | .local _ .vmem, ⟨0, _⟩ => ⟨S128x128, .bf16⟩
  | .local _ .vmem, ⟨1, _⟩ => ⟨S2048x128, .bf16⟩
  | .local _ .vmem, ⟨2, _⟩ => ⟨S2048x128, .bf16⟩
  | .local _ .vmem, ⟨3, _⟩ => ⟨S128x1024, .i8⟩
  | .local _ .vmem, ⟨4, _⟩ => ⟨S128x1024, .i8⟩
  | .local _ .vmem, ⟨5, _⟩ => ⟨S128x128, .fp8e4m3⟩
  | .local _ .vmem, ⟨6, _⟩ => ⟨S128x128, .fp8e4m3⟩
  | .local _ .vmem, ⟨7, _⟩ => ⟨S2048x128, .bf16⟩
  | .local _ .vmem, ⟨8, _⟩ => ⟨S2048x128, .bf16⟩
  | .local _ .vmem, ⟨9, _⟩ => ⟨S256x128, .i32⟩
  | .local _ .vmem, ⟨10, _⟩ => ⟨S128x128, .f32⟩
  | .local _ .smem, ⟨0, _⟩ => ⟨S1, .f32⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![32, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XBlkIdeal.lean ====
variable {F : FTy → Type} [FloatOps F]
-- ==== XBlkRefIdeal.lean ====
abbrev S12288x4096 : Shape := ⟨2, ![12288, 4096]⟩
abbrev S16 : Shape := ⟨1, ![16]⟩
abbrev S1 : Shape := ⟨1, ![1]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S768x16x4096 : Shape := ⟨3, ![768, 16, 4096]⟩
abbrev S768x4096x16 : Shape := ⟨3, ![768, 4096, 16]⟩
abbrev S4096x768x16 : Shape := ⟨3, ![4096, 768, 16]⟩
abbrev S4096x768 : Shape := ⟨2, ![4096, 768]⟩

abbrev nBuf : Space → Nat
  | .hbm => 52
  | .vmem => 2
  | .smem => 0
  | _ => 0

abbrev bufTy : (tb : Table) → Fin (tcTables nBuf tb) → BufTy
  | .hbm, ⟨0, _⟩ => ⟨S12288x4096, .bf16⟩
  | .hbm, ⟨1, _⟩ => ⟨S16, .f32⟩
  | .hbm, ⟨2, _⟩ => ⟨S1, .f32⟩
  | .hbm, ⟨3, _⟩ => ⟨S16, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i1⟩
  | .hbm, ⟨16, _⟩ => ⟨S_, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S1x16, .f32⟩
  | .hbm, ⟨26, _⟩ => ⟨S16x16, .f32⟩
  | .hbm, ⟨27, _⟩ => ⟨S16x16, .f32⟩
  | .hbm, ⟨28, _⟩ => ⟨S12288x4096, .f32⟩
  | .hbm, ⟨29, _⟩ => ⟨S768x16x4096, .f32⟩
  | .hbm, ⟨30, _⟩ => ⟨S768x4096x16, .f32⟩
  | .hbm, ⟨31, _⟩ => ⟨S4096x768x16, .f32⟩
  | .hbm, ⟨32, _⟩ => ⟨S4096x768x16, .f32⟩
  | .hbm, ⟨33, _⟩ => ⟨S_, .f32⟩
  | .hbm, ⟨34, _⟩ => ⟨S4096x768, .f32⟩
  | .hbm, ⟨35, _⟩ => ⟨S_, .f32⟩
  | .hbm, ⟨36, _⟩ => ⟨S4096x768, .f32⟩
  | .hbm, ⟨37, _⟩ => ⟨S4096x768, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x768, .f32⟩
  | .hbm, ⟨42, _⟩ => ⟨S4096x768, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x768, .f32⟩
  | .hbm, ⟨47, _⟩ => ⟨S4096x768, .f32⟩
  | .hbm, ⟨48, _⟩ => ⟨S_, .f32⟩
  | .hbm, ⟨49, _⟩ => ⟨S4096x768, .f32⟩
  | .hbm, ⟨50, _⟩ => ⟨S4096x768, .f32⟩
  | .hbm, ⟨51, _⟩ => ⟨S4096x768, .fp8e4m3⟩
  | .local _ .vmem, ⟨0, _⟩ => ⟨S4096x768, .f32⟩
  | .local _ .vmem, ⟨1, _⟩ => ⟨S4096x768, .fp8e4m3⟩
  | _, _ => ⟨S12288x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DyBlk.lean ====
abbrev S12288x14336 : Shape := ⟨2, ![12288, 14336]⟩
abbrev S16 : Shape := ⟨1, ![16]⟩
abbrev S1 : Shape := ⟨1, ![1]⟩
abbrev S_ : Shape := ⟨0, ![]⟩
abbrev S8x2 : Shape := ⟨2, ![8, 2]⟩
abbrev S8x1x2 : Shape := ⟨3, ![8, 1, 2]⟩
abbrev S8x8x2 : Shape := ⟨3, ![8, 8, 2]⟩
abbrev S128x1 : Shape := ⟨2, ![128, 1]⟩
abbrev S128x128 : Shape := ⟨2, ![128, 128]⟩
abbrev S14336x6144 : Shape := ⟨2, ![14336, 6144]⟩
abbrev S14336x768 : Shape := ⟨2, ![14336, 768]⟩
abbrev S2048x128 : Shape := ⟨2, ![2048, 128]⟩
abbrev S128x1024 : Shape := ⟨2, ![128, 1024]⟩
abbrev S256x128 : Shape := ⟨2, ![256, 128]⟩
abbrev S1024x128 : Shape := ⟨2, ![1024, 128]⟩
abbrev S8x128 : Shape := ⟨2, ![8, 128]⟩
abbrev S1024x2x128 : Shape := ⟨3, ![1024, 2, 128]⟩
abbrev S8x2x128 : Shape := ⟨3, ![8, 2, 128]⟩
abbrev S8x1x128 : Shape := ⟨3, ![8, 1, 128]⟩
abbrev S16x128 : Shape := ⟨2, ![16, 128]⟩
abbrev S8x4x128 : Shape := ⟨3, ![8, 4, 128]⟩
abbrev S32x128 : Shape := ⟨2, ![32, 128]⟩
abbrev S128x256 : Shape := ⟨2, ![128, 256]⟩

abbrev nBuf : Space → Nat
  | .hbm => 16
  | .vmem => 13
  | .smem => 1
  | _ => 0

abbrev bufTy : (tb : Table) → Fin (tcTables nBuf tb) → BufTy
  | .hbm, ⟨0, _⟩ => ⟨S12288x14336, .bf16⟩
  | .hbm, ⟨1, _⟩ => ⟨S16, .f32⟩
  | .hbm, ⟨2, _⟩ => ⟨S1, .f32⟩
  | .hbm, ⟨3, _⟩ => ⟨S12288x14336, .i32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S16, .bf16⟩
  | .hbm, ⟨8, _⟩ => ⟨S8x2, .bf16⟩
  | .hbm, ⟨9, _⟩ => ⟨S8x1x2, .bf16⟩
  | .hbm, ⟨10, _⟩ => ⟨S8x8x2, .bf16⟩
  | .hbm, ⟨11, _⟩ => ⟨S128x1, .bf16⟩
  | .hbm, ⟨12, _⟩ => ⟨S128x128, .bf16⟩
  | .hbm, ⟨13, _⟩ => ⟨S14336x6144, .i8⟩
  | .hbm, ⟨14, _⟩ => ⟨S14336x768, .fp8e4m3⟩
  | .hbm, ⟨15, _⟩ => ⟨S12288x14336, .bf16⟩
  | .local _ .vmem, ⟨0, _⟩ => ⟨S128x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .i32⟩
  | .local _ .vmem, ⟨4, _⟩ => ⟨S2048x128, .i32⟩
  | .local _ .vmem, ⟨5, _⟩ => ⟨S128x1024, .i8⟩
  | .local _ .vmem, ⟨6, _⟩ => ⟨S128x1024, .i8⟩
  | .local _ .vmem, ⟨7, _⟩ => ⟨S128x128, .fp8e4m3⟩
  | .local _ .vmem, ⟨8, _⟩ => ⟨S128x128, .fp8e4m3⟩
  | .local _ .vmem, ⟨9, _⟩ => ⟨S2048x128, .bf16⟩
  | .local _ .vmem, ⟨10, _⟩ => ⟨S2048x128, .bf16⟩
  | .local _ .vmem, ⟨11, _⟩ => ⟨S256x128, .i32⟩
  | .local _ .vmem, ⟨12, _⟩ => ⟨S128x128, .f32⟩
  | .local _ .smem, ⟨0, _⟩ => ⟨S1, .f32⟩
  | _, _ => ⟨S12288x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![112, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DyBlkIdeal.lean ====
variable {F : FTy → Type} [FloatOps F]
-- ==== DyBlkRefIdeal.lean ====
abbrev S12288x14336 : Shape := ⟨2, ![12288, 14336]⟩
abbrev S16 : Shape := ⟨1, ![16]⟩
abbrev S1 : Shape := ⟨1, ![1]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S768x16x14336 : Shape := ⟨3, ![768, 16, 14336]⟩
abbrev S768x14336x16 : Shape := ⟨3, ![768, 14336, 16]⟩
abbrev S14336x768x16 : Shape := ⟨3, ![14336, 768, 16]⟩
abbrev S14336x768 : Shape := ⟨2, ![14336, 768]⟩

abbrev nBuf : Space → Nat
  | .hbm => 53
  | .vmem => 2
  | .smem => 0
  | _ => 0

abbrev bufTy : (tb : Table) → Fin (tcTables nBuf tb) → BufTy
  | .hbm, ⟨0, _⟩ => ⟨S12288x14336, .bf16⟩
  | .hbm, ⟨1, _⟩ => ⟨S16, .f32⟩
  | .hbm, ⟨2, _⟩ => ⟨S1, .f32⟩
  | .hbm, ⟨3, _⟩ => ⟨S12288x14336, .i32⟩
  | .hbm, ⟨4, _⟩ => ⟨S16, .i32⟩
  | .hbm, ⟨5, _⟩ => ⟨S16x1, .i32⟩
  | .hbm, ⟨6, _⟩ => ⟨S1x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i1⟩
  | .hbm, ⟨17, _⟩ => ⟨S_, .f32⟩
  | .hbm, ⟨18, _⟩ => ⟨S_, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S_, .f32⟩
  | .hbm, ⟨24, _⟩ => ⟨S16x16, .f32⟩
  | .hbm, ⟨25, _⟩ => ⟨S16x16, .f32⟩
  | .hbm, ⟨26, _⟩ => ⟨S1x16, .f32⟩
  | .hbm, ⟨27, _⟩ => ⟨S16x16, .f32⟩
  | .hbm, ⟨28, _⟩ => ⟨S16x16, .f32⟩
  | .hbm, ⟨29, _⟩ => ⟨S12288x14336, .f32⟩
  | .hbm, ⟨30, _⟩ => ⟨S768x16x14336, .f32⟩
  | .hbm, ⟨31, _⟩ => ⟨S768x14336x16, .f32⟩
  | .hbm, ⟨32, _⟩ => ⟨S14336x768x16, .f32⟩
  | .hbm, ⟨33, _⟩ => ⟨S14336x768x16, .f32⟩
  | .hbm, ⟨34, _⟩ => ⟨S_, .f32⟩
  | .hbm, ⟨35, _⟩ => ⟨S14336x768, .f32⟩
  | .hbm, ⟨36, _⟩ => ⟨S_, .f32⟩
  | .hbm, ⟨37, _⟩ => ⟨S14336x768, .f32⟩
  | .hbm, ⟨38, _⟩ => ⟨S14336x768, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S14336x768, .f32⟩
  | .hbm, ⟨43, _⟩ => ⟨S14336x768, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S14336x768, .f32⟩
  | .hbm, ⟨48, _⟩ => ⟨S14336x768, .f32⟩
  | .hbm, ⟨49, _⟩ => ⟨S_, .f32⟩
  | .hbm, ⟨50, _⟩ => ⟨S14336x768, .f32⟩
  | .hbm, ⟨51, _⟩ => ⟨S14336x768, .f32⟩
  | .hbm, ⟨52, _⟩ => ⟨S14336x768, .fp8e4m3⟩
  | .local _ .vmem, ⟨0, _⟩ => ⟨S14336x768, .f32⟩
  | .local _ .vmem, ⟨1, _⟩ => ⟨S14336x768, .fp8e4m3⟩
  | _, _ => ⟨S12288x14336, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S14336x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.WgradValue.lean ====
/- The value of the weight-gradient call: the array it leaves is, entry by entry, the whole contraction over the 12288
   tokens times the product of the two global scales. Hand-written, untrusted. -/
module

public import proofs.«01_k».proof.Defs
public import proofs.«01_k».proof.Proof.Gen.WgradIdeal.Value
public import proofs.«01_k».proof.Proof.Gen.Wgrad.Frame
public import proofs.«01_k».proof.Proof.Gen.WgradRefIdeal.Run
public import proofs.«01_k».proof.Proof.Gen.WgradRefIdeal.Read
public import Idealize.ShloMosaic.Lib.Pointwise
public import Idealize.ShloMosaic.Lib.Pipeline.Value
public import Idealize.ShloMosaic.Lib.Tactic
public import Idealize.ShloMosaic.Lib.Quiescent

@[expose] public section

set_option maxRecDepth 16384

noncomputable section

open Idealize.ShloMosaic Idealize.ShloMosaic.TcCoe Idealize.SL.Sem
open scoped BigOperators

namespace Cert.WgradIdeal.Hand

open Cert.WgradIdeal Cert.WgradIdeal.Gen Cert.WgradIdeal.Value

section AnyF
variable {F : FTy → Type} [FloatOps F]

theorem hz : (![0, 0] : Fin 2 → Nat) = fun _ => 0 := funext fun a => by fin_cases a <;> rfl

theorem hz1 : (![0] : Fin 1 → Nat) = fun _ => 0 := funext fun a => by fin_cases a; rfl

/-- At the first point of a tile the accumulator is left holding the product of the two blocks, added to zero. -/
theorem sout_A (c : Dev nD) (i : grid0.Coords) (arg3 : Memref sig .tc .smem S1 .f32) (harg3 : arg3.IsWhole) (arg4 : Memref sig .tc .smem S1 .f32) (harg4 : arg4.IsWhole) (arg5 : Memref sig .tc .vmem S1024x1024 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .f32) (harg8 : arg8.IsWhole) (hc0 : cond0_0 i) (hc1 : ¬cond0_1 i)
    (x0 : Vec F S1 .f32) (x1 : Vec F S1 .f32) (x2 : Vec F S1024x1024 .bf16) (x3 : Vec F S1024x2048 .bf16) :
    sout0_A_0 c i arg3 harg3 arg4 harg4 arg5 harg5 arg6 harg6 arg7 harg7 arg8 harg8 hc0 hc1 x0 x1 x2 x3 = k0_pay2 k0_pay1 x2 x3 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x2048) hz, View.readCov_unit_zero (S := S1024x2048) _ hz]
  simp only [View.readAt_eq_ld, harg5.read_unread, harg6.read_unread, View.ld_unit_zero (S := S1024x1024) hz, View.ld_unit_zero (S := S1024x2048) hz]

/-- At an inner point of a tile the accumulator is left holding what it held plus the product of the two blocks. -/
theorem sout_B (c : Dev nD) (i : grid0.Coords) (arg3 : Memref sig .tc .smem S1 .f32) (harg3 : arg3.IsWhole) (arg4 : Memref sig .tc .smem S1 .f32) (harg4 : arg4.IsWhole) (arg5 : Memref sig .tc .vmem S1024x1024 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .f32) (harg8 : arg8.IsWhole) (hc0 : ¬cond0_0 i) (hc1 : ¬cond0_1 i)
    (x0 : Vec F S1 .f32) (x1 : Vec F S1 .f32) (x2 : Vec F S1024x1024 .bf16) (x3 : Vec F S1024x2048 .bf16) (xs0 : Vec F S1024x2048 .f32) :
    sout0_B_0 c i arg3 harg3 arg4 harg4 arg5 harg5 arg6 harg6 arg7 harg7 arg8 harg8 hc0 hc1 x0 x1 x2 x3 xs0 = k0_pay2 xs0 x2 x3 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg5.read_unread, harg6.read_unread, harg8.read_unread, View.ld_unit_zero (S := S1024x1024) hz, View.ld_unit_zero (S := S1024x2048) hz]

/-- At the last point of a tile the output block is left holding the scaled accumulator. -/
theorem out_C (c : Dev nD) (i : grid0.Coords) (arg3 : Memref sig .tc .smem S1 .f32) (harg3 : arg3.IsWhole) (arg4 : Memref sig .tc .smem S1 .f32) (harg4 : arg4.IsWhole) (arg5 : Memref sig .tc .vmem S1024x1024 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .f32) (harg8 : arg8.IsWhole) (hc0 : ¬cond0_0 i) (hc1 : cond0_1 i)
    (x0 : Vec F S1 .f32) (x1 : Vec F S1 .f32) (x2 : Vec F S1024x1024 .bf16) (x3 : Vec F S1024x2048 .bf16) (xs0 : Vec F S1024x2048 .f32) :
    out0_C_4 c i arg3 harg3 arg4 harg4 arg5 harg5 arg6 harg6 arg7 harg7 arg8 harg8 hc0 hc1 x0 x1 x2 x3 xs0 = k0_pay3 (k0_pay2 xs0 x2 x3) (x0 (ix1 0)) (x1 (ix1 0)) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S1024x1024) hz, View.ld_unit_zero (S := S1024x2048) hz, View.readCov_unit_zero (S := S1024x2048) _ hz]
  have e : ∀ (x : Vec F S1 .f32) (y : (Rect.unit (s := S1) ![0] ![1] inb_S1_S1_0).shape.Idx), View.ld x (Rect.unit (s := S1) ![0] ![1] inb_S1_S1_0) y = x (ix1 0) := fun x y =>
    congrArg x (funext fun a => by
      match a with
      | ⟨0, _⟩ => exact Subsingleton.elim (α := Fin 1) _ _)
  rw [e, e]

end AnyF

/-! ## At the ideal instance -/

/-- One step of the accumulator, entry by entry: what it held plus the contraction of the two blocks. -/
theorem pay2_apply (v3 : Vec Ideal S1024x2048 .f32) (v4 : Vec Ideal S1024x1024 .bf16) (v5 : Vec Ideal S1024x2048 .bf16)
    (p : Fin 1024) (q : Fin 2048) :
    k0_pay2 (F := Ideal) v3 v4 v5 (ix2 p q) = v3 (ix2 p q) + ∑ k : Fin 1024, v4 (ix2 k p) * v5 (ix2 k q) := by
  unfold_payloads
  pointwise [dot_S1024x1024_S1024x2048_S1024x2048_0_0_1_1_n_n]

/-- The zero block the accumulator starts from. -/
theorem pay1_apply (j : S1024x2048.Idx) : k0_pay1 (F := Ideal) j = 0 := by
  unfold_payloads
  pointwise

/-- The block written back: the accumulator times the product of the two scales. -/
theorem pay3_apply (v14 : Vec Ideal S1024x2048 .f32) (a b : Elt Ideal .f32) (j : S1024x2048.Idx) :
    k0_pay3 (F := Ideal) v14 a b j = v14 j * (a * b) := by
  unfold_payloads
  pointwise

variable (m : (ℓ : Loc nD τ sig) → Buf (Elt Ideal) ℓ)

/-- The printed index maps over the 14 × 2 × 12 grid. -/
theorem idx_facts : ∀ t : Fin grid0.N, (win0_2.index t 0 = t.val % 12 ∧ win0_2.index t 1 = t.val / 24)
    ∧ (win0_3.index t 0 = t.val % 12 ∧ win0_3.index t 1 = t.val / 12 % 2) := by decide +kernel

/-- The two operands as extended-real matrices with the indices as numbers (zero outside the arrays). -/
def A (c : Dev nD) (r p : ℕ) : EReal :=
  if h : r < 12288 ∧ p < 14336 then (m ((c : Thread nD τ).loc main_arg2) : Vec Ideal S12288x14336 .bf16) (ix2 ⟨r, h.1⟩ ⟨p, h.2⟩) else 0

/-- The second operand, as `A` is the first. -/
def B (c : Dev nD) (r q : ℕ) : EReal :=
  if h : r < 12288 ∧ q < 4096 then (m ((c : Thread nD τ).loc main_arg3) : Vec Ideal S12288x4096 .bf16) (ix2 ⟨r, h.1⟩ ⟨q, h.2⟩) else 0

theorem iblk2 (c : Dev nD) (t : Fin cfg0.N) (k : Fin 1024) (p : Fin 1024) :
    (iblk m c 2 t : Vec Ideal S1024x1024 .bf16) (ix2 k p) = A m c (1024 * (t.val % 12) + k.val) (1024 * (t.val / 24) + p.val) := by
  have ht : t.val < 336 := lt_of_lt_of_eq t.isLt N_0
  obtain ⟨⟨e0, e1⟩, _⟩ := idx_facts t
  have hk := k.isLt
  have hp := p.isLt
  have hb : 1024 * (t.val % 12) + k.val < 12288 ∧ 1024 * (t.val / 24) + p.val < 14336 := by omega
  unfold A
  rw [dif_pos hb]
  unfold iblk
  rw [View.read_apply]
  show V m c main_arg2 _ = m ((c : Thread nD τ).loc main_arg2) _
  unfold V
  congr 1
  funext a
  apply Fin.ext
  match a with
  | ⟨0, _⟩ => show win0_2.index t 0 * 1024 + 1 * k.val = 1024 * (t.val % 12) + k.val; rw [e0]; omega
  | ⟨1, _⟩ => show win0_2.index t 1 * 1024 + 1 * p.val = 1024 * (t.val / 24) + p.val; rw [e1]; omega

theorem iblk3 (c : Dev nD) (t : Fin cfg0.N) (k : Fin 1024) (q : Fin 2048) :
    (iblk m c 3 t : Vec Ideal S1024x2048 .bf16) (ix2 k q) = B m c (1024 * (t.val % 12) + k.val) (2048 * (t.val / 12 % 2) + q.val) := by
  have ht : t.val < 336 := lt_of_lt_of_eq t.isLt N_0
  obtain ⟨_, e0, e1⟩ := idx_facts t
  have hk := k.isLt
  have hq := q.isLt
  have hb : 1024 * (t.val % 12) + k.val < 12288 ∧ 2048 * (t.val / 12 % 2) + q.val < 4096 := by omega
  unfold B
  rw [dif_pos hb]
  unfold iblk
  rw [View.read_apply]
  show V m c main_arg3 _ = m ((c : Thread nD τ).loc main_arg3) _
  unfold V
  congr 1
  funext a
  apply Fin.ext
  match a with
  | ⟨0, _⟩ => show win0_3.index t 0 * 1024 + 1 * k.val = 1024 * (t.val % 12) + k.val; rw [e0]; omega
  | ⟨1, _⟩ => show win0_3.index t 1 * 2048 + 1 * q.val = 2048 * (t.val / 12 % 2) + q.val; rw [e1]; omega

/-- The two scales' blocks are the one-entry arrays themselves. -/
theorem iblk0 (c : Dev nD) (t : Fin cfg0.N) (j : S1.Idx) :
    (iblk m c 0 t : Vec Ideal S1 .f32) (ix1 0) = (m ((c : Thread nD τ).loc main_arg0) : Vec Ideal S1 .f32) j := by
  unfold iblk
  rw [View.read_apply]
  show V m c main_arg0 _ = m ((c : Thread nD τ).loc main_arg0) _
  unfold V
  congr 1
  funext a
  match a with
  | ⟨0, _⟩ => exact Subsingleton.elim (α := Fin 1) _ _

theorem iblk1 (c : Dev nD) (t : Fin cfg0.N) (j : S1.Idx) :
    (iblk m c 1 t : Vec Ideal S1 .f32) (ix1 0) = (m ((c : Thread nD τ).loc main_arg1) : Vec Ideal S1 .f32) j := by
  unfold iblk
  rw [View.read_apply]
  show V m c main_arg1 _ = m ((c : Thread nD τ).loc main_arg1) _
  unfold V
  congr 1
  funext a
  match a with
  | ⟨0, _⟩ => exact Subsingleton.elim (α := Fin 1) _ _

/-- A sum over `n` blocks of `b` consecutive numbers is the sum over the first `b·n` numbers. -/
theorem sum_blocks (f : ℕ → EReal) (b : ℕ) : ∀ n, ∑ s ∈ Finset.range n, ∑ k : Fin b, f (b * s + k.val) = ∑ r ∈ Finset.range (b * n), f r
  | 0 => by simp
  | n + 1 => by
    rw [Finset.sum_range_succ, sum_blocks f b n, Nat.mul_succ, Finset.sum_range_add, Finset.sum_range (fun x => f (b * n + x))]

/-- What the product of the two blocks at point `t` adds to entry `(p, q)` of the accumulator. -/
theorem step_eq (c : Dev nD) (t : Fin cfg0.N) (v : Vec Ideal S1024x2048 .f32) (p : Fin 1024) (q : Fin 2048) :
    k0_pay2 (F := Ideal) v (iblk m c 2 t) (iblk m c 3 t) (ix2 p q) = v (ix2 p q)
      + ∑ k : Fin 1024, A m c (1024 * (t.val % 12) + k.val) (1024 * (t.val / 24) + p.val) * B m c (1024 * (t.val % 12) + k.val) (2048 * (t.val / 12 % 2) + q.val) := by
  rw [pay2_apply]
  simp only [iblk2, iblk3]

/-- The accumulator after point `n`, entry by entry: the blocks of the tile's run multiplied so far. -/
theorem scratch_eq (c : Dev nD) (p : Fin 1024) (q : Fin 2048) : ∀ (n : ℕ) (h : n < cfg0.N), n % 12 ≠ 11 →
    (outsAt0 m c n h).2 (ix2 p q) = ∑ s ∈ Finset.range (n % 12 + 1),
      ∑ k : Fin 1024, A m c (1024 * s + k.val) (1024 * (n / 24) + p.val) * B m c (1024 * s + k.val) (2048 * (n / 12 % 2) + q.val)
  | 0, h, _ => by
    rw [outsAt0_A m c ⟨0, h⟩ rfl (by show ¬ (0 % 12 = 11); decide)]
    dsimp only
    rw [sout_A, step_eq, pay1_apply, zero_add]
    simp
  | n + 1, h, hn => by
    by_cases h0 : (n + 1) % 12 = 0
    · rw [outsAt0_A m c ⟨n + 1, h⟩ h0 hn]
      dsimp only
      rw [sout_A, step_eq, pay1_apply, zero_add, h0]
      simp
    · rw [outsAt0_B m c ⟨n + 1, h⟩ h0 hn]
      dsimp only
      rw [sout_B, step_eq]
      have ih := scratch_eq c p q n (Nat.lt_of_succ_lt h) (by omega)
      show (outsAt0 m c n _).2 (ix2 p q) + _ = _
      rw [ih]
      have e1 : (n + 1) % 12 = n % 12 + 1 := by omega
      have e2 : (n + 1) / 24 = n / 24 := by omega
      have e3 : (n + 1) / 12 = n / 12 := by omega
      rw [e1, e2, e3, Finset.sum_range_succ _ (n % 12 + 1)]

/-- The product of two extended reals, named so that an entry of an array can stand on either side. -/
def prod (x y : EReal) : EReal := x * y

/-- The call's result, entry by entry: the contraction over all 12288 tokens times the product of the two scales. -/
theorem G4_eq (c : Dev nD) (i : S14336x4096.Idx) (j : S1.Idx) :
    G4 m c i = (∑ r ∈ Finset.range 12288, A m c r (i 0).val * B m c r (i 1).val)
      * prod ((m ((c : Thread nD τ).loc main_arg0) : Vec Ideal S1 .f32) j) ((m ((c : Thread nD τ).loc main_arg1) : Vec Ideal S1 .f32) j) := by
  have hi0 : (i 0).val < 14336 := (i 0).isLt
  have hi1 : (i 1).val < 4096 := (i 1).isLt
  obtain ⟨n, hn⟩ : ∃ n, n = 12 * run4Of i + 10 := ⟨_, rfl⟩
  have hpt : pt4Of i = n + 1 := by rw [hn]
  have hr : run4Of i = 2 * ((i 0).val / 1024) + (i 1).val / 2048 := by show 2 * ((i 0).val / 1024 - 0) + 1 * ((i 1).val / 2048 - 0) = _; omega
  rw [hr] at hn
  have hlt : n + 1 < cfg0.N := by show n + 1 < grid0.N; rw [N_0]; omega
  have hG : G4 m c i = (outsAt0 m c (n + 1) hlt).1 (ix2 ⟨(i 0).val % 1024, Nat.mod_lt _ (by decide)⟩ ⟨(i 1).val % 2048, Nat.mod_lt _ (by decide)⟩) := by
    unfold G4
    rw [dif_pos (by rw [hpt]; exact hlt), outsAt0_sweep m c (n + 1) hlt]
    rw [fold0_congr m c (pt4Of i) _ (n + 1) (by omega) hpt]
    refine congrArg _ (funext fun a => ?_)
    match a with
    | ⟨0, _⟩ => rfl
    | ⟨1, _⟩ => rfl
  rw [hG, outsAt0_C m c ⟨n + 1, hlt⟩ (by show ¬ (n + 1) % 12 = 0; omega) (by show (n + 1) % 12 = 11; omega)]
  dsimp only
  rw [out_C, pay3_apply, step_eq, iblk0 m c _ j, iblk1 m c _ j]
  congr 1
  show (outsAt0 m c n _).2 _ + _ = _
  rw [scratch_eq m c _ _ n _ (by omega)]
  have e1 : n % 12 + 1 = 11 := by omega
  have e1' : (n + 1) % 12 = 11 := by omega
  have e2 : (n + 1) / 24 = n / 24 := by omega
  have e3 : (n + 1) / 12 = n / 12 := by omega
  have e4 : 1024 * (n / 24) + (i 0).val % 1024 = (i 0).val := by omega
  have e5 : 2048 * (n / 12 % 2) + (i 1).val % 2048 = (i 1).val := by omega
  dsimp only
  rw [e1, e1', e2, e3, e4, e5, ← Finset.sum_range_succ (fun s => ∑ k : Fin 1024, A m c (1024 * s + k.val) (i 0).val * B m c (1024 * s + k.val) (i 1).val) 11]
  exact sum_blocks (fun r => A m c r (i 0).val * B m c r (i 1).val) 1024 12

end Cert.WgradIdeal.Hand

/-! ## The reference, and the claims -/

namespace Cert.WgradClaims

open Cert.WgradIdeal.Hand

/-- The reference's result on the same four arrays is the call's, entry by entry. -/
theorem ref_eq (m : (ℓ : Loc Cert.WgradIdeal.nD Cert.WgradIdeal.τ Cert.WgradIdeal.sig) → Buf (Elt Ideal) ℓ) (c : Dev Cert.WgradIdeal.nD) :
    Cert.WgradRefIdeal.Read.val_main_v6 (F := Ideal) (m ((c.tc : Thread Cert.WgradIdeal.nD Cert.WgradIdeal.τ).loc Cert.WgradIdeal.main_arg0))
      (m ((c.tc : Thread Cert.WgradIdeal.nD Cert.WgradIdeal.τ).loc Cert.WgradIdeal.main_arg1)) (m ((c.tc : Thread Cert.WgradIdeal.nD Cert.WgradIdeal.τ).loc Cert.WgradIdeal.main_arg2))
      (m ((c.tc : Thread Cert.WgradIdeal.nD Cert.WgradIdeal.τ).loc Cert.WgradIdeal.main_arg3)) = Cert.WgradIdeal.Value.G4 m c := by
  funext i
  have hi0 : (i 0).val < 14336 := (i 0).isLt
  have hi1 : (i 1).val < 4096 := (i 1).isLt
  rw [G4_eq m c i (ix1 0), Cert.WgradRefIdeal.Read.val_main_v6_apply, Cert.WgradRefIdeal.Read.val_main_v5_apply, Cert.WgradRefIdeal.Read.val_main_v4_apply,
    Cert.WgradRefIdeal.Read.val_main_v3_apply, Cert.WgradRefIdeal.Read.val_main_v0_apply]
  have es : ∀ (x : (⟨Cert.WgradRefIdeal.S1, .f32⟩ : BufTy).Contents (Elt Ideal)) (k : Cert.WgradRefIdeal.S_.Idx), shapeCast Cert.WgradRefIdeal.S_ x Cert.WgradRefIdeal.Gen.shapeCasts_S1_S_ k = x (ix1 0) := fun x k =>
    congrArg x (funext fun a => by
      match a with
      | ⟨0, _⟩ => exact Subsingleton.elim (α := Fin 1) _ _)
  unfold Cert.WgradRefIdeal.Read.val_main_v1 Cert.WgradRefIdeal.Read.val_main_v2
  rw [es, es, Finset.sum_range]
  have hs : ∀ k : Fin 12288, A m c k.val (i 0).val * B m c k.val (i 1).val
      = prod (m ((c.tc : Thread Cert.WgradIdeal.nD Cert.WgradIdeal.τ).loc Cert.WgradIdeal.main_arg2) (Cert.WgradRefIdeal.Read.lidx_main_v0 i k))
          (m ((c.tc : Thread Cert.WgradIdeal.nD Cert.WgradIdeal.τ).loc Cert.WgradIdeal.main_arg3) (Cert.WgradRefIdeal.Read.ridx_main_v0 i k)) := fun k => by
    unfold A B prod
    rw [dif_pos ⟨k.isLt, hi0⟩, dif_pos ⟨k.isLt, hi1⟩]
    congr 2
    · funext a
      match a with
      | ⟨0, _⟩ => rfl
      | ⟨1, _⟩ => rfl
    · funext a
      match a with
      | ⟨0, _⟩ => rfl
      | ⟨1, _⟩ => rfl
  simp only [hs]
  rfl

/-- The weight-gradient call leaves the reference's array, over the extended reals. -/
theorem algebraic : Cert.algebraic_WgradIdeal_WgradRefIdeal := by
  intro m ρ m' ρ' _ hagree
  refine ⟨fun c => Cert.WgradIdeal.Value.G4 m c, Cert.WgradIdeal.Value.run (F := Ideal) m ρ, ?_⟩
  refine (θ_run Cert.WgradRefIdeal.defs _ _).mono (fun r h c => ?_) (Cert.WgradRefIdeal.Value.run (F := Ideal) m' ρ')
  obtain ⟨h0, h1, h2, h3⟩ := hagree c
  refine ⟨?_, (h c).2⟩
  rw [(h c).1, Cert.WgradRefIdeal.Read.val_main_v6_eq, h0, h1, h2, h3]
  exact ref_eq m c

/-- The kernel as written, the kernel over the extended reals and the reference run to the end with their arguments
    unchanged and every semaphore back at zero. -/
theorem frame : Cert.quiescent_Wgrad := fun m ρ _ => Cert.Wgrad.Gen.frame m ρ
theorem frameI : Cert.quiescent_WgradIdeal := fun m ρ _ => Cert.WgradIdeal.Gen.frame m ρ
theorem frameR : Cert.quiescent_WgradRefIdeal := fun m ρ _ =>
  (θ_run Cert.WgradRefIdeal.defs _ _).mono (fun r h => ⟨fun c => (h c).2,
      Idealize.ShloMosaic.sem_eq_zero_of_no_sems (by decide) r.2⟩)
    (Cert.WgradRefIdeal.Value.run (F := Ideal) m ρ)

end Cert.WgradClaims
-- ==== Proof.DyScaleValue.lean ====
/- The value of the global-scale call on the gradient: the one entry it leaves is the reference's. The maximum the
   kernel carries over its 48 points and the reference's maximum over the whole transformed array are bounded by the
   same numbers. Hand-written, untrusted. -/
module

public import proofs.«01_k».proof.Defs
public import proofs.«01_k».proof.Proof.Gen.DyScale.Frame
public import proofs.«01_k».proof.Proof.Gen.DyScaleIdeal.Value
public import proofs.«01_k».proof.Proof.Gen.DyScaleRefIdeal.Run
public import proofs.«01_k».proof.Proof.Gen.DyScaleRefIdeal.Read
public import Idealize.ShloMosaic.Lib.Pointwise
public import Idealize.ShloMosaic.Lib.Pipeline.Value
public import Idealize.ShloMosaic.Lib.Pipeline.ValueKit
public import Idealize.ShloMosaic.Lib.Tactic
public import Idealize.ShloMosaic.Lib.Quiescent
public import Idealize.ShloMosaic.PureOps.Ideal.Laws

@[expose] public section

set_option maxRecDepth 16384

noncomputable section

open Idealize.ShloMosaic Idealize.ShloMosaic.TcCoe Idealize.SL.Sem
open scoped BigOperators

namespace Cert.DyScaleIdeal.Hand

open Cert.DyScaleIdeal Cert.DyScaleIdeal.Gen Cert.DyScaleIdeal.Value

section AnyF
variable {F : FTy → Type} [FloatOps F]

/-- The offset of a whole two-axis block. -/
theorem hz : (![0, 0] : Fin 2 → Nat) = fun _ => 0 := funext fun a => by fin_cases a <;> rfl

/-- The offset of a whole one-axis block. -/
theorem hz1 : (![0] : Fin 1 → Nat) = fun _ => 0 := funext fun a => by fin_cases a; rfl

/-- At the first point the accumulator is left holding one step from zero. -/
theorem sout_A (c : Dev nD) (i : grid0.Coords) (arg1 : Memref sig .tc .vmem S256x256 .bf16) (harg1 : arg1.IsWhole) (arg2 : Memref sig .tc .vmem S256x14336 .bf16) (harg2 : arg2.IsWhole) (arg3 : Memref sig .tc .smem S1 .f32) (harg3 : arg3.IsWhole) (arg4 : Memref sig .tc .vmem S8x14336 .f32) (harg4 : arg4.IsWhole) (hc0 : cond0_0 i) (hc1 : ¬cond0_1 i)
    (x0 : Vec F S256x256 .bf16) (x1 : Vec F S256x14336 .bf16) :
    sout0_A_0 c i arg1 harg1 arg2 harg2 arg3 harg3 arg4 harg4 hc0 hc1 x0 x1 = k0_pay2 k0_pay1 x0 x1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S8x14336) hz, View.readCov_unit_zero (S := S8x14336) _ hz]
  simp only [View.readAt_eq_ld, harg1.read_unread, harg2.read_unread, View.ld_unit_zero (S := S256x256) hz, View.ld_unit_zero (S := S256x14336) hz]

/-- At an inner point the accumulator is left holding one step from what it held. -/
theorem sout_B (c : Dev nD) (i : grid0.Coords) (arg1 : Memref sig .tc .vmem S256x256 .bf16) (harg1 : arg1.IsWhole) (arg2 : Memref sig .tc .vmem S256x14336 .bf16) (harg2 : arg2.IsWhole) (arg3 : Memref sig .tc .smem S1 .f32) (harg3 : arg3.IsWhole) (arg4 : Memref sig .tc .vmem S8x14336 .f32) (harg4 : arg4.IsWhole) (hc0 : ¬cond0_0 i) (hc1 : ¬cond0_1 i)
    (x0 : Vec F S256x256 .bf16) (x1 : Vec F S256x14336 .bf16) (xs0 : Vec F S8x14336 .f32) :
    sout0_B_0 c i arg1 harg1 arg2 harg2 arg3 harg3 arg4 harg4 hc0 hc1 x0 x1 xs0 = k0_pay2 xs0 x0 x1 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread, View.ld_unit_zero (S := S256x256) hz, View.ld_unit_zero (S := S256x14336) hz, View.ld_unit_zero (S := S8x14336) hz]

/-- At the last point the output's one entry is left holding the scale of the accumulator's last step. -/
theorem out_C (c : Dev nD) (i : grid0.Coords) (arg1 : Memref sig .tc .vmem S256x256 .bf16) (harg1 : arg1.IsWhole) (arg2 : Memref sig .tc .vmem S256x14336 .bf16) (harg2 : arg2.IsWhole) (arg3 : Memref sig .tc .smem S1 .f32) (harg3 : arg3.IsWhole) (arg4 : Memref sig .tc .vmem S8x14336 .f32) (harg4 : arg4.IsWhole) (hc0 : ¬cond0_0 i) (hc1 : cond0_1 i)
    (x0 : Vec F S256x256 .bf16) (x1 : Vec F S256x14336 .bf16) (xs0 : Vec F S8x14336 .f32) :
    out0_C_2 c i arg1 harg1 arg2 harg2 arg3 harg3 arg4 harg4 hc0 hc1 x0 x1 xs0 = fun _ => k0_pay3 (k0_pay2 xs0 x0 x1) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  simp only [View.readAt_eq_ld, harg1.read_unread, harg2.read_unread, harg4.read_unread, View.ld_unit_zero (S := S256x256) hz, View.ld_unit_zero (S := S256x14336) hz, View.ld_unit_zero (S := S8x14336) hz, View.readCov_unit_zero (S := S8x14336) _ hz]
  rw [View.canon_unit_zero hz1]
  rfl

variable (m : (ℓ : Loc nD τ sig) → Buf (Elt F) ℓ)

/-- The signed Hadamard matrix as the host operations before the call build it. -/
def hm (x1 : (⟨S16, .f32⟩ : BufTy).Contents (Elt F)) : (⟨S16x16, .f32⟩ : BufTy).Contents (Elt F) :=
  Cert.DyScaleRefIdeal.Read.val_main_v17 (F := F) x1

/-- The identity matrix as the host operations before the call build it. -/
def eye : (⟨S16x16, .f32⟩ : BufTy).Contents (Elt F) :=
  uitofp .f32 (cmpi .eq (addi (iotaInDim S16x16 32 0) (broadcastInDim S16x16 ![] bcast_S_S16x16 (constantI S_ 32 0#32))) (iotaInDim S16x16 32 1))

/-- The 256 × 256 block matrix the call finds. -/
theorem V_v26 (c : Dev nD) : V m c main_v26 = truncf .bf16 (shapeCast S256x256 (mulf
      (broadcastInDim S16x16x16x16 ![0, 1, 2, 3] bcast_S16x1x16x1_S16x16x16x16_0_1_2_3 (broadcastInDim S16x1x16x1 ![0, 2] bcast_S16x16_S16x1x16x1_0_2 (eye (F := F))))
      (broadcastInDim S16x16x16x16 ![0, 1, 2, 3] bcast_S1x16x1x16_S16x16x16x16_0_1_2_3 (broadcastInDim S1x16x1x16 ![1, 3] bcast_S16x16_S1x16x1x16_1_3 (hm (m ((c : Thread nD τ).loc main_arg1))))))
      shapeCasts_S16x16x16x16_S256x256) bitsLt_bf16_f32 := by
  rfl

/-- The rows the call finds: the argument's, its first two axes put together. -/
theorem V_v0 (c : Dev nD) : V m c main_v0 = shapeCast S12288x14336 (m ((c : Thread nD τ).loc main_arg0)) shapeCasts_S8x1536x14336_S12288x14336 := by
  rfl

end AnyF

/-! ## At the ideal instance -/

/-- The absolute value of an extended real. -/
def absE (z : EReal) : EReal := max z (-z)

/-- An absolute value is not negative. -/
theorem absE_nonneg (z : EReal) : 0 ≤ absE z := by
  rcases le_total 0 z with h | h
  · exact le_trans h (le_max_left _ _)
  · exact le_trans (EReal.neg_nonneg.mpr h) (le_max_right _ _)

/-- The word a maximum starts from is −∞. -/
theorem neg_inf : Ideal.ofBits FTy.f32 4286578688#32 = ⊥ := by
  simp [Ideal.ofBits, Ideal.ieee]

/-- One step of the accumulator is bounded by `y` at an entry if and only if what it held is and so is the absolute
    value of each of the 32 products of the two blocks that fall on that entry. -/
theorem pay2_le (v3 : Vec Ideal S8x14336 .f32) (h : Vec Ideal S256x256 .bf16) (x : Vec Ideal S256x14336 .bf16) (a : Fin 8) (q : Fin 14336) (y : EReal) :
    k0_pay2 (F := Ideal) v3 h x (ix2 a q) ≤ y ↔ v3 (ix2 a q) ≤ y ∧ ∀ b : Fin 32, absE (∑ k : Fin 256, h (ix2 ⟨b.val * 8 + a.val, by omega⟩ k) * x (ix2 k q)) ≤ y := by
  unfold_payloads
  pointwise
  rw [neg_inf]
  refine max_le_iff.trans (and_congr Iff.rfl ?_)
  rw [Finset.fold_max_le]
  exact ⟨fun hh b => hh.2 b (Finset.mem_univ b), fun hh => ⟨bot_le, fun b _ => hh b⟩⟩

/-- The zero block the accumulator starts from. -/
theorem pay1_apply (j : S8x14336.Idx) : k0_pay1 (F := Ideal) j = 0 := by
  unfold_payloads
  pointwise

/-- The scale of a maximum: 1 for zero, else the maximum over the number of the printed word (2688). -/
def scaleOf (M : EReal) : EReal := if M = 0 then 1 else Ideal.div M (Ideal.ofBits FTy.f32 1160249344#32)

/-- The entry written back is the scale of the accumulator's maximum. -/
theorem pay3_eq (v : Vec Ideal S8x14336 .f32) (M : EReal) (hM : ∀ y, M ≤ y ↔ ∀ a q, (v (ix2 a q) : EReal) ≤ y) :
    k0_pay3 (F := Ideal) v = scaleOf M := by
  unfold_payloads
  pointwise
  rw [neg_inf]
  have e : ∀ y, Finset.fold max (⊥ : EReal) (fun x : Fin 8 × Fin 14336 => (v (ix2 x.1 x.2) : EReal)) Finset.univ ≤ y ↔ ∀ a q, (v (ix2 a q) : EReal) ≤ y := fun y => by
    rw [Finset.fold_max_le]
    exact ⟨fun hh a q => hh.2 (a, q) (Finset.mem_univ _), fun hh => ⟨bot_le, fun x _ => hh x.1 x.2⟩⟩
  have e' : Finset.fold max (⊥ : EReal) (fun x : Fin 8 × Fin 14336 => (v (ix2 x.1 x.2) : EReal)) Finset.univ = M :=
    le_antisymm ((e M).mpr ((hM M).mp le_rfl)) ((hM _).mpr ((e _).mp le_rfl))
  unfold scaleOf
  rw [← e']

variable (m : (ℓ : Loc nD τ sig) → Buf (Elt Ideal) ℓ)

/-- The rows of the argument with the indices as numbers (zero outside the array). -/
def X (c : Dev nD) (r q : ℕ) : EReal :=
  if h : r < 12288 ∧ q < 14336 then (m ((c : Thread nD τ).loc main_arg0) : Vec Ideal S8x1536x14336 .bf16) (ix3 ⟨r / 1536, by omega⟩ ⟨r % 1536, by omega⟩ ⟨q, h.2⟩) else 0

/-- The signed Hadamard matrix, as `X` is the argument. -/
def H (c : Dev nD) (i j : ℕ) : EReal :=
  if h : i < 16 ∧ j < 16 then (hm (F := Ideal) (m ((c : Thread nD τ).loc main_arg1)) : Vec Ideal S16x16 .f32) (ix2 ⟨i, h.1⟩ ⟨j, h.2⟩) else 0

/-- Equality of two small numbers compared as 32-bit words. -/
theorem eq_words : ∀ a b : Fin 16, IntOp.cmpi .eq (IntOp.addi (BitVec.ofNat 32 a.val) 0#32) (BitVec.ofNat 32 b.val) = if a = b then 1#1 else 0#1 := by decide

/-- The identity matrix the host operations build is 1 on the diagonal and 0 off it. -/
theorem eye_apply (a b : Fin 16) : eye (F := Ideal) (ix2 a b) = if a = b then 1 else 0 := by
  have h : eye (F := Ideal) (ix2 a b) = (((IntOp.cmpi .eq (IntOp.addi (BitVec.ofNat 32 a.val) 0#32) (BitVec.ofNat 32 b.val)).toNat : ℝ) : EReal) := by
    unfold eye
    rfl
  rw [h, eq_words]
  split <;> simp

/-- The printed index maps over the 48 points. -/
theorem idx_facts : ∀ t : Fin grid0.N, (win0_0.index t 0 = 0 ∧ win0_0.index t 1 = 0)
    ∧ (win0_1.index t 0 = t.val ∧ win0_1.index t 1 = 0) := by decide +kernel

/-- The block matrix: the 16 × 16 matrix on the diagonal blocks, zero elsewhere. -/
theorem V_v26_apply (c : Dev nD) (r k : Fin 256) : (V m c main_v26 : Vec Ideal S256x256 .bf16) (ix2 r k)
    = if r.val / 16 = k.val / 16 then H m c (r.val % 16) (k.val % 16) else 0 := by
  rw [V_v26]
  have hr := r.isLt
  have hk := k.isLt
  unfold H
  rw [dif_pos (by omega)]
  have hE := eye_apply ⟨r.val / 16, by omega⟩ ⟨k.val / 16, by omega⟩
  revert hE
  generalize hm (F := Ideal) (m ((c : Thread nD τ).loc main_arg1)) = w
  generalize eye (F := Ideal) = e
  intro hE
  pointwise
  rw [hE]
  by_cases hd : r.val / 16 = k.val / 16
  · rw [if_pos hd, if_pos (Fin.ext hd), one_mul]
  · rw [if_neg hd, if_neg (fun h => hd (congrArg Fin.val h)), zero_mul]

/-- The block matrix is the same at every point. -/
theorem iblk0 (c : Dev nD) (t : Fin cfg0.N) (r k : Fin 256) :
    (iblk m c 0 t : Vec Ideal S256x256 .bf16) (ix2 r k) = if r.val / 16 = k.val / 16 then H m c (r.val % 16) (k.val % 16) else 0 := by
  obtain ⟨⟨e0, e1⟩, _⟩ := idx_facts t
  rw [← V_v26_apply]
  unfold iblk
  rw [View.read_apply]
  show V m c main_v26 _ = V m c main_v26 _
  congr 1
  funext a
  apply Fin.ext
  match a with
  | ⟨0, _⟩ => show win0_0.index t 0 * 256 + 1 * r.val = r.val; rw [e0]; omega
  | ⟨1, _⟩ => show win0_0.index t 1 * 256 + 1 * k.val = k.val; rw [e1]; omega

/-- Row `k` of the block of rows at point `t` is row `256·t + k` of the argument. -/
theorem iblk1 (c : Dev nD) (t : Fin cfg0.N) (k : Fin 256) (q : Fin 14336) :
    (iblk m c 1 t : Vec Ideal S256x14336 .bf16) (ix2 k q) = X m c (256 * t.val + k.val) q.val := by
  have ht : t.val < 48 := lt_of_lt_of_eq t.isLt N_0
  obtain ⟨_, e0, e1⟩ := idx_facts t
  have hk := k.isLt
  have hq := q.isLt
  have hb : 256 * t.val + k.val < 12288 ∧ q.val < 14336 := by omega
  unfold X
  rw [dif_pos hb]
  unfold iblk
  rw [View.read_apply]
  show V m c main_v0 _ = m ((c : Thread nD τ).loc main_arg0) _
  rw [V_v0]
  refine shapeCast_apply _ _ _ _ ?_
  show (S8x1536x14336.rowMajor (ix3 ⟨(256 * t.val + k.val) / 1536, by omega⟩ ⟨(256 * t.val + k.val) % 1536, by omega⟩ ⟨q.val, hb.2⟩)).val = _
  rw [Shape.rowMajor_val_three, Shape.rowMajor_val_two]
  show ((256 * t.val + k.val) / 1536 * 1536 + (256 * t.val + k.val) % 1536) * 14336 + q.val
    = (win0_1.index t 0 * 256 + 1 * k.val) * 14336 + (win0_1.index t 1 * 14336 + 1 * q.val)
  rw [e0, e1]
  omega

/-- A sum over `n` blocks of `b` consecutive numbers is the sum over the first `b·n` numbers. -/
theorem sum_blocks (f : ℕ → EReal) (b : ℕ) : ∀ n, ∑ s ∈ Finset.range n, ∑ k : Fin b, f (b * s + k.val) = ∑ r ∈ Finset.range (b * n), f r
  | 0 => by simp
  | n + 1 => by
    rw [Finset.sum_range_succ, sum_blocks f b n, Nat.mul_succ, Finset.sum_range_add, Finset.sum_range (fun x => f (b * n + x))]

/-- Entry `(R, q)` of the transformed rows: the 16 rows of `R`'s group against row `R % 16` of the matrix. -/
def TR (c : Dev nD) (R q : ℕ) : EReal := ∑ j : Fin 16, H m c (R % 16) j.val * X m c (16 * (R / 16) + j.val) q

/-- A row of the block matrix against the 256 rows of point `t` is one entry of the transformed rows. -/
theorem row_eq (c : Dev nD) (t r q : ℕ) (hr : r < 256) :
    ∑ k : Fin 256, (if r / 16 = k.val / 16 then H m c (r % 16) (k.val % 16) else 0) * X m c (256 * t + k.val) q = TR m c (256 * t + r) q := by
  rw [← Finset.sum_range (fun k => (if r / 16 = k / 16 then H m c (r % 16) (k % 16) else 0) * X m c (256 * t + k) q),
    show (256 : ℕ) = 16 * 16 from rfl, ← sum_blocks _ 16 16]
  rw [Finset.sum_eq_single (r / 16)]
  · unfold TR
    refine Finset.sum_congr rfl fun j _ => ?_
    have hj := j.isLt
    rw [if_pos (by omega)]
    congr 2 <;> omega
  · intro g _ hg
    refine Finset.sum_eq_zero fun j _ => ?_
    have hj := j.isLt
    rw [if_neg (by omega), zero_mul]
  · intro h
    exact absurd (Finset.mem_range.mpr (by omega)) h

/-- What bounds one step of the accumulator over a block matrix `h` and the rows `x` of point `t`. -/
theorem step_le_of (c : Dev nD) (t : ℕ) (h : Vec Ideal S256x256 .bf16) (x : Vec Ideal S256x14336 .bf16)
    (hh : ∀ r k : Fin 256, h (ix2 r k) = if r.val / 16 = k.val / 16 then H m c (r.val % 16) (k.val % 16) else 0)
    (hx : ∀ (k : Fin 256) (q : Fin 14336), x (ix2 k q) = X m c (256 * t + k.val) q.val)
    (v : Vec Ideal S8x14336 .f32) (a : Fin 8) (q : Fin 14336) (y : EReal) :
    k0_pay2 (F := Ideal) v h x (ix2 a q) ≤ y ↔ v (ix2 a q) ≤ y
      ∧ ∀ b : Fin 32, absE (TR m c (256 * t + (b.val * 8 + a.val)) q.val) ≤ y := by
  rw [pay2_le]
  have e : ∀ b : Fin 32, (∑ k : Fin 256, h (ix2 ⟨b.val * 8 + a.val, by omega⟩ k) * x (ix2 k q))
      = TR m c (256 * t + (b.val * 8 + a.val)) q.val := fun b => by
    rw [← row_eq m c t (b.val * 8 + a.val) q.val (by omega)]
    simp only [hh, hx]
  simp only [e]

/-- What bounds one step of the accumulator at point `t`. -/
theorem step_le (c : Dev nD) (t : Fin cfg0.N) (v : Vec Ideal S8x14336 .f32) (a : Fin 8) (q : Fin 14336) (y : EReal) :
    k0_pay2 (F := Ideal) v (iblk m c 0 t) (iblk m c 1 t) (ix2 a q) ≤ y ↔ v (ix2 a q) ≤ y
      ∧ ∀ b : Fin 32, absE (TR m c (256 * t.val + (b.val * 8 + a.val)) q.val) ≤ y :=
  step_le_of m c t.val _ _ (iblk0 m c t) (iblk1 m c t) v a q y

/-- What bounds the accumulator after point `n`: zero, and every entry of the transformed rows seen so far. -/
theorem scratch_le (c : Dev nD) (a : Fin 8) (q : Fin 14336) (y : EReal) : ∀ (n : ℕ) (h : n < cfg0.N), n < 47 →
    ((outsAt0 m c n h).2 (ix2 a q) ≤ y ↔ 0 ≤ y ∧ ∀ s ≤ n, ∀ b : Fin 32, absE (TR m c (256 * s + (b.val * 8 + a.val)) q.val) ≤ y)
  | 0, h, _ => by
    rw [outsAt0_A m c ⟨0, h⟩ rfl (by show ¬ (0 % 48 = 47); decide)]
    dsimp only
    rw [sout_A, step_le, pay1_apply]
    refine and_congr Iff.rfl ⟨fun hh s hs b => ?_, fun hh b => hh 0 le_rfl b⟩
    obtain rfl : s = 0 := by omega
    exact hh b
  | n + 1, h, hn => by
    rw [outsAt0_B m c ⟨n + 1, h⟩ (by show ¬ ((n + 1) % 48 = 0); omega) (by show ¬ ((n + 1) % 48 = 47); omega)]
    dsimp only
    rw [sout_B, step_le]
    have ih := scratch_le c a q y n (Nat.lt_of_succ_lt h) (by omega)
    show (outsAt0 m c n _).2 (ix2 a q) ≤ y ∧ _ ↔ _
    rw [ih]
    refine ⟨fun hh => ⟨hh.1.1, fun s hs b => ?_⟩, fun hh => ⟨⟨hh.1, fun s hs b => hh.2 s (by omega) b⟩, fun b => hh.2 (n + 1) le_rfl b⟩⟩
    rcases Nat.lt_or_ge n s with h1 | h1
    · obtain rfl : s = n + 1 := by omega
      exact hh.2 b
    · exact hh.1.2 s h1 b

/-- Point 47 is in the grid. -/
theorem lt47 : 47 < cfg0.N := by show 47 < grid0.N; rw [N_0]; decide

/-- What bounds the accumulator at the last point: every entry of the transformed rows. -/
theorem last_le (c : Dev nD) (y : EReal) :
    (∀ a q, (k0_pay2 (F := Ideal) (outsAt0 m c 46 (Nat.lt_of_succ_lt lt47)).2 (iblk m c 0 ⟨47, lt47⟩) (iblk m c 1 ⟨47, lt47⟩) (ix2 a q) : EReal) ≤ y)
      ↔ ∀ R q : ℕ, R < 12288 → q < 14336 → absE (TR m c R q) ≤ y := by
  have h : ∀ (a : Fin 8) (q : Fin 14336), ((k0_pay2 (F := Ideal) (outsAt0 m c 46 (Nat.lt_of_succ_lt lt47)).2 (iblk m c 0 ⟨47, lt47⟩) (iblk m c 1 ⟨47, lt47⟩) (ix2 a q) : EReal) ≤ y)
      ↔ (0 ≤ y ∧ ∀ s ≤ 46, ∀ b : Fin 32, absE (TR m c (256 * s + (b.val * 8 + a.val)) q.val) ≤ y)
        ∧ ∀ b : Fin 32, absE (TR m c (256 * 47 + (b.val * 8 + a.val)) q.val) ≤ y := fun a q =>
    (step_le m c ⟨47, lt47⟩ _ a q y).trans (and_congr (scratch_le m c a q y 46 _ (by decide)) Iff.rfl)
  constructor
  · intro hh R q hR hq
    have h1 := (h ⟨R % 8, by omega⟩ ⟨q, hq⟩).mp (hh _ _)
    have e : 256 * (R / 256) + (R % 256 / 8 * 8 + R % 8) = R := by omega
    rcases Nat.lt_or_ge (R / 256) 47 with h2 | h2
    · have h3 := h1.1.2 (R / 256) (by omega) ⟨R % 256 / 8, by omega⟩
      dsimp only at h3
      rwa [e] at h3
    · have h3 := h1.2 ⟨R % 256 / 8, by omega⟩
      dsimp only at h3
      have e2 : R / 256 = 47 := by omega
      rw [e2] at e
      rwa [e] at h3
  · intro hh a q
    refine (h a q).mpr ⟨⟨le_trans (absE_nonneg _) (hh 0 0 (by decide) (by decide)), fun s hs b => hh _ _ (by omega) q.isLt⟩, fun b => hh _ _ (by omega) q.isLt⟩

/-- The result array is the one entry the last point leaves. -/
theorem final_eq (c : Dev nD) : (dats m 0 c).arrAt 2 cfg0.N
    = (fun _ => k0_pay3 (F := Ideal) (k0_pay2 (outsAt0 m c 46 (Nat.lt_of_succ_lt lt47)).2 (iblk m c 0 ⟨47, lt47⟩) (iblk m c 1 ⟨47, lt47⟩)) : S1.Idx → EReal) := by
  refine (dats m 0 c).arrAt_eq_of_covers 2 _ (by decide +kernel) fun t hf y => ?_
  have ht : t.val < 48 := lt_of_lt_of_eq t.isLt N_0
  have h47 : t.val % 48 = 47 := (flush0_2 t).mp hf
  obtain rfl : t = ⟨47, lt47⟩ := Fin.ext (by show t.val = 47; omega)
  rw [after0_2, outsAt0_C m c ⟨47, lt47⟩ (by show ¬ 47 % 48 = 0; decide) (by show 47 % 48 = 47; decide)]
  dsimp only
  rw [out_C]
  have e : ∀ (n : ℕ) (h : n < cfg0.N), n = 46 → k0_pay3 (F := Ideal) (k0_pay2 (outsAt0 m c n h).2 (iblk m c 0 ⟨47, lt47⟩) (iblk m c 1 ⟨47, lt47⟩))
      = k0_pay3 (F := Ideal) (k0_pay2 (outsAt0 m c 46 (Nat.lt_of_succ_lt lt47)).2 (iblk m c 0 ⟨47, lt47⟩) (iblk m c 1 ⟨47, lt47⟩)) := fun n h hn => by
    subst hn
    rfl
  exact (cast_eq _ _).trans (e _ _ rfl)

end Cert.DyScaleIdeal.Hand

/-! ## The reference, and the claims -/

namespace Cert.DyScaleClaims

open Cert.DyScaleIdeal.Hand

/-- What bounds the reference's maximum: every entry of its transformed array. -/
theorem ref_le (x0 : (⟨Cert.DyScaleRefIdeal.S8x1536x14336, .bf16⟩ : BufTy).Contents (Elt Ideal)) (x1 : (⟨Cert.DyScaleRefIdeal.S16, .f32⟩ : BufTy).Contents (Elt Ideal))
    (i : Cert.DyScaleRefIdeal.S_.Idx) (y : EReal) :
    Cert.DyScaleRefIdeal.Read.val_main_v24 (F := Ideal) x0 x1 i ≤ y ↔
      ∀ (o : Fin 14336) (g : Fin 768) (j : Fin 16), absE (Cert.DyScaleRefIdeal.Read.val_main_v20 (F := Ideal) x0 x1 (ix3 g o j)) ≤ y := by
  unfold Cert.DyScaleRefIdeal.Read.val_main_v24 Cert.DyScaleRefIdeal.Read.val_main_v23 Cert.DyScaleRefIdeal.Read.val_main_v22
    Cert.DyScaleRefIdeal.Read.val_main_v21 Cert.DyScaleRefIdeal.Read.val_main_cst_3 Cert.DyScaleRefIdeal.Read.val_main_cst_4
  generalize Cert.DyScaleRefIdeal.Read.val_main_v20 (F := Ideal) x0 x1 = w
  pointwise
  rw [neg_inf, Finset.fold_max_le]
  have e : ∀ z : EReal, FloatOps.absf (F := Ideal) (φ := .f32) z = absE z := fun _ => rfl
  simp only [Finset.fold_max_le, e, bot_le, Finset.mem_univ, true_and, forall_true_left, Prod.forall]

/-- An entry of the reference's transformed array is that entry of the transformed rows. -/
theorem ref_entry (m : (ℓ : Loc Cert.DyScaleIdeal.nD Cert.DyScaleIdeal.τ Cert.DyScaleIdeal.sig) → Buf (Elt Ideal) ℓ) (c : Dev Cert.DyScaleIdeal.nD)
    (o : Fin 14336) (g : Fin 768) (j : Fin 16) :
    Cert.DyScaleRefIdeal.Read.val_main_v20 (F := Ideal) (m ((c.tc : Thread Cert.DyScaleIdeal.nD Cert.DyScaleIdeal.τ).loc Cert.DyScaleIdeal.main_arg0))
      (m ((c.tc : Thread Cert.DyScaleIdeal.nD Cert.DyScaleIdeal.τ).loc Cert.DyScaleIdeal.main_arg1)) (ix3 g o j)
      = TR m c (16 * g.val + j.val) o.val := by
  have ho := o.isLt
  have hg := g.isLt
  have hj := j.isLt
  rw [Cert.DyScaleRefIdeal.Read.val_main_v20_apply]
  unfold TR
  refine Finset.sum_congr rfl fun k _ => ?_
  have hk := k.isLt
  rw [mul_comm, Cert.DyScaleRefIdeal.Read.val_main_v19_apply, Cert.DyScaleRefIdeal.Read.val_main_v18_apply]
  have e1 : (16 * g.val + j.val) % 16 = j.val := by omega
  have e2 : (16 * g.val + j.val) / 16 = g.val := by omega
  unfold H X
  rw [e1, e2, dif_pos ⟨hj, hk⟩, dif_pos (by omega)]
  refine congrArg₂ (fun x y : EReal => x * y) (congrArg _ (funext fun a => Fin.ext ?_)) (congrArg (m _) (funext fun a => Fin.ext ?_))
  · match a with
    | ⟨0, _⟩ => rfl
    | ⟨1, _⟩ => rfl
  · match a with
    | ⟨0, _⟩ => show ((g.val * 16 + k.val) * 14336 + o.val) / 22020096 = (16 * g.val + k.val) / 1536; omega
    | ⟨1, _⟩ => show ((g.val * 16 + k.val) * 14336 + o.val) / 14336 % 1536 = (16 * g.val + k.val) % 1536; omega
    | ⟨2, _⟩ => show ((g.val * 16 + k.val) * 14336 + o.val) % 14336 = o.val; omega

/-- The reference's one entry is the scale of its maximum. -/
theorem ref_scale (x0 : (⟨Cert.DyScaleRefIdeal.S8x1536x14336, .bf16⟩ : BufTy).Contents (Elt Ideal)) (x1 : (⟨Cert.DyScaleRefIdeal.S16, .f32⟩ : BufTy).Contents (Elt Ideal))
    (j : Cert.DyScaleRefIdeal.S1.Idx) :
    Cert.DyScaleRefIdeal.Read.val_main_v28 (F := Ideal) x0 x1 j = scaleOf (Cert.DyScaleRefIdeal.Read.val_main_v24 (F := Ideal) x0 x1 (fun a => a.elim0)) := by
  unfold Cert.DyScaleRefIdeal.Read.val_main_v28
  have es : ∀ (x : Cert.DyScaleRefIdeal.S_.Idx → EReal), shapeCast Cert.DyScaleRefIdeal.S1 x Cert.DyScaleRefIdeal.Gen.shapeCasts_S_S1 j = x (fun a => a.elim0) := fun x =>
    congrArg x (funext fun a => a.elim0)
  refine (es _).trans ?_
  rw [Cert.DyScaleRefIdeal.Read.val_main_v27_apply, Cert.DyScaleRefIdeal.Read.val_main_v26_apply, Cert.DyScaleRefIdeal.Read.val_main_v25_apply,
    Cert.DyScaleRefIdeal.Read.val_main_call1_v0_apply, Cert.DyScaleRefIdeal.Read.val_main_cst_7_apply, Cert.DyScaleRefIdeal.Read.val_main_cst_6_apply, Cert.DyScaleRefIdeal.Read.val_main_cst_5_apply]
  generalize Cert.DyScaleRefIdeal.Read.val_main_v24 (F := Ideal) x0 x1 _ = M
  unfold scaleOf
  pointwise

/-- The reference's result on the same arrays is the call's. -/
theorem ref_eq (m : (ℓ : Loc Cert.DyScaleIdeal.nD Cert.DyScaleIdeal.τ Cert.DyScaleIdeal.sig) → Buf (Elt Ideal) ℓ) (c : Dev Cert.DyScaleIdeal.nD) :
    Cert.DyScaleRefIdeal.Read.val_main_v28 (F := Ideal) (m ((c.tc : Thread Cert.DyScaleIdeal.nD Cert.DyScaleIdeal.τ).loc Cert.DyScaleIdeal.main_arg0))
      (m ((c.tc : Thread Cert.DyScaleIdeal.nD Cert.DyScaleIdeal.τ).loc Cert.DyScaleIdeal.main_arg1)) = (Cert.DyScaleIdeal.Gen.dats m 0 c).arrAt 2 Cert.DyScaleIdeal.cfg0.N := by
  rw [final_eq]
  funext j
  rw [ref_scale]
  refine (pay3_eq _ _ fun y => ?_).symm
  rw [ref_le, last_le]
  constructor
  · intro hh R q hR hq
    have h := hh ⟨q, hq⟩ ⟨R / 16, by omega⟩ ⟨R % 16, by omega⟩
    rw [ref_entry] at h
    dsimp only at h
    rwa [Nat.div_add_mod] at h
  · intro hh o g i
    rw [ref_entry]
    exact hh _ _ (by omega) o.isLt

/-- The global-scale call on the gradient leaves the reference's entry, over the extended reals. -/
theorem algebraic : Cert.algebraic_DyScaleIdeal_DyScaleRefIdeal := by
  intro m ρ m' ρ' _ hagree
  refine ⟨fun c => (Cert.DyScaleIdeal.Gen.dats m 0 c).arrAt 2 Cert.DyScaleIdeal.cfg0.N, Cert.DyScaleIdeal.Value.run_blocks (F := Ideal) m ρ, ?_⟩
  refine (θ_run Cert.DyScaleRefIdeal.defs _ _).mono (fun r h c => ?_) (Cert.DyScaleRefIdeal.Value.run (F := Ideal) m' ρ')
  obtain ⟨h0, h1⟩ := hagree c
  refine ⟨?_, (h c).2⟩
  rw [(h c).1, Cert.DyScaleRefIdeal.Read.val_main_v28_eq, h0, h1]
  exact ref_eq m c

/-- The kernel as written runs to the end with its arguments unchanged and every semaphore back at zero. -/
theorem frame : Cert.quiescent_DyScale := fun m ρ _ => Cert.DyScale.Gen.frame m ρ

/-- So does the kernel over the extended reals. -/
theorem frameI : Cert.quiescent_DyScaleIdeal := fun m ρ _ => Cert.DyScaleIdeal.Gen.frame m ρ

/-- So does the reference over them. -/
theorem frameR : Cert.quiescent_DyScaleRefIdeal := fun m ρ _ =>
  (θ_run Cert.DyScaleRefIdeal.defs _ _).mono (fun r h => ⟨fun c => (h c).2,
      Idealize.ShloMosaic.sem_eq_zero_of_no_sems (by decide) r.2⟩)
    (Cert.DyScaleRefIdeal.Value.run (F := Ideal) m ρ)

end Cert.DyScaleClaims
-- ==== Proof.XScaleValue.lean ====
/- The value of the global-scale call on the activations: the one entry it leaves is the reference's. The maximum the
   kernel carries over its 48 points and the reference's maximum over the whole transformed array are bounded by the
   same numbers. Hand-written, untrusted. -/
module

public import proofs.«01_k».proof.Defs
public import proofs.«01_k».proof.Proof.Gen.XScale.Frame
public import proofs.«01_k».proof.Proof.Gen.XScaleIdeal.Value
public import proofs.«01_k».proof.Proof.Gen.XScaleRefIdeal.Run
public import proofs.«01_k».proof.Proof.Gen.XScaleRefIdeal.Read
public import Idealize.ShloMosaic.Lib.Pointwise
public import Idealize.ShloMosaic.Lib.Pipeline.Value
public import Idealize.ShloMosaic.Lib.Pipeline.ValueKit
public import Idealize.ShloMosaic.Lib.Tactic
public import Idealize.ShloMosaic.Lib.Quiescent
public import Idealize.ShloMosaic.PureOps.Ideal.Laws

@[expose] public section

set_option maxRecDepth 16384

noncomputable section

open Idealize.ShloMosaic Idealize.ShloMosaic.TcCoe Idealize.SL.Sem
open scoped BigOperators

namespace Cert.XScaleIdeal.Hand

open Cert.XScaleIdeal Cert.XScaleIdeal.Gen Cert.XScaleIdeal.Value

section AnyF
variable {F : FTy → Type} [FloatOps F]

/-- The offset of a whole two-axis block. -/
theorem hz : (![0, 0] : Fin 2 → Nat) = fun _ => 0 := funext fun a => by fin_cases a <;> rfl

/-- The offset of a whole one-axis block. -/
theorem hz1 : (![0] : Fin 1 → Nat) = fun _ => 0 := funext fun a => by fin_cases a; rfl

/-- At the first point the accumulator is left holding one step from zero. -/
theorem sout_A (c : Dev nD) (i : grid0.Coords) (arg1 : Memref sig .tc .vmem S256x256 .bf16) (harg1 : arg1.IsWhole) (arg2 : Memref sig .tc .vmem S256x4096 .bf16) (harg2 : arg2.IsWhole) (arg3 : Memref sig .tc .smem S1 .f32) (harg3 : arg3.IsWhole) (arg4 : Memref sig .tc .vmem S8x4096 .f32) (harg4 : arg4.IsWhole) (hc0 : cond0_0 i) (hc1 : ¬cond0_1 i)
    (x0 : Vec F S256x256 .bf16) (x1 : Vec F S256x4096 .bf16) :
    sout0_A_0 c i arg1 harg1 arg2 harg2 arg3 harg3 arg4 harg4 hc0 hc1 x0 x1 = k0_pay2 k0_pay1 x0 x1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S8x4096) hz, View.readCov_unit_zero (S := S8x4096) _ hz]
  simp only [View.readAt_eq_ld, harg1.read_unread, harg2.read_unread, View.ld_unit_zero (S := S256x256) hz, View.ld_unit_zero (S := S256x4096) hz]

/-- At an inner point the accumulator is left holding one step from what it held. -/
theorem sout_B (c : Dev nD) (i : grid0.Coords) (arg1 : Memref sig .tc .vmem S256x256 .bf16) (harg1 : arg1.IsWhole) (arg2 : Memref sig .tc .vmem S256x4096 .bf16) (harg2 : arg2.IsWhole) (arg3 : Memref sig .tc .smem S1 .f32) (harg3 : arg3.IsWhole) (arg4 : Memref sig .tc .vmem S8x4096 .f32) (harg4 : arg4.IsWhole) (hc0 : ¬cond0_0 i) (hc1 : ¬cond0_1 i)
    (x0 : Vec F S256x256 .bf16) (x1 : Vec F S256x4096 .bf16) (xs0 : Vec F S8x4096 .f32) :
    sout0_B_0 c i arg1 harg1 arg2 harg2 arg3 harg3 arg4 harg4 hc0 hc1 x0 x1 xs0 = k0_pay2 xs0 x0 x1 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread, View.ld_unit_zero (S := S256x256) hz, View.ld_unit_zero (S := S256x4096) hz, View.ld_unit_zero (S := S8x4096) hz]

/-- At the last point the output's one entry is left holding the scale of the accumulator's last step. -/
theorem out_C (c : Dev nD) (i : grid0.Coords) (arg1 : Memref sig .tc .vmem S256x256 .bf16) (harg1 : arg1.IsWhole) (arg2 : Memref sig .tc .vmem S256x4096 .bf16) (harg2 : arg2.IsWhole) (arg3 : Memref sig .tc .smem S1 .f32) (harg3 : arg3.IsWhole) (arg4 : Memref sig .tc .vmem S8x4096 .f32) (harg4 : arg4.IsWhole) (hc0 : ¬cond0_0 i) (hc1 : cond0_1 i)
    (x0 : Vec F S256x256 .bf16) (x1 : Vec F S256x4096 .bf16) (xs0 : Vec F S8x4096 .f32) :
    out0_C_2 c i arg1 harg1 arg2 harg2 arg3 harg3 arg4 harg4 hc0 hc1 x0 x1 xs0 = fun _ => k0_pay3 (k0_pay2 xs0 x0 x1) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  simp only [View.readAt_eq_ld, harg1.read_unread, harg2.read_unread, harg4.read_unread, View.ld_unit_zero (S := S256x256) hz, View.ld_unit_zero (S := S256x4096) hz, View.ld_unit_zero (S := S8x4096) hz, View.readCov_unit_zero (S := S8x4096) _ hz]
  rw [View.canon_unit_zero hz1]
  rfl

variable (m : (ℓ : Loc nD τ sig) → Buf (Elt F) ℓ)

/-- The signed Hadamard matrix as the host operations before the call build it. -/
def hm (x1 : (⟨S16, .f32⟩ : BufTy).Contents (Elt F)) : (⟨S16x16, .f32⟩ : BufTy).Contents (Elt F) :=
  Cert.XScaleRefIdeal.Read.val_main_v17 (F := F) x1

/-- The identity matrix as the host operations before the call build it. -/
def eye : (⟨S16x16, .f32⟩ : BufTy).Contents (Elt F) :=
  uitofp .f32 (cmpi .eq (addi (iotaInDim S16x16 32 0) (broadcastInDim S16x16 ![] bcast_S_S16x16 (constantI S_ 32 0#32))) (iotaInDim S16x16 32 1))

/-- The 256 × 256 block matrix the call finds. -/
theorem V_v26 (c : Dev nD) : V m c main_v26 = truncf .bf16 (shapeCast S256x256 (mulf
      (broadcastInDim S16x16x16x16 ![0, 1, 2, 3] bcast_S16x1x16x1_S16x16x16x16_0_1_2_3 (broadcastInDim S16x1x16x1 ![0, 2] bcast_S16x16_S16x1x16x1_0_2 (eye (F := F))))
      (broadcastInDim S16x16x16x16 ![0, 1, 2, 3] bcast_S1x16x1x16_S16x16x16x16_0_1_2_3 (broadcastInDim S1x16x1x16 ![1, 3] bcast_S16x16_S1x16x1x16_1_3 (hm (m ((c : Thread nD τ).loc main_arg1))))))
      shapeCasts_S16x16x16x16_S256x256) bitsLt_bf16_f32 := by
  rfl

/-- The rows the call finds: the argument's, its first two axes put together. -/
theorem V_v0 (c : Dev nD) : V m c main_v0 = shapeCast S12288x4096 (m ((c : Thread nD τ).loc main_arg0)) shapeCasts_S8x1536x4096_S12288x4096 := by
  rfl

end AnyF

/-! ## At the ideal instance -/

/-- The absolute value of an extended real. -/
def absE (z : EReal) : EReal := max z (-z)

/-- An absolute value is not negative. -/
theorem absE_nonneg (z : EReal) : 0 ≤ absE z := by
  rcases le_total 0 z with h | h
  · exact le_trans h (le_max_left _ _)
  · exact le_trans (EReal.neg_nonneg.mpr h) (le_max_right _ _)

/-- The word a maximum starts from is −∞. -/
theorem neg_inf : Ideal.ofBits FTy.f32 4286578688#32 = ⊥ := by
  simp [Ideal.ofBits, Ideal.ieee]

/-- One step of the accumulator is bounded by `y` at an entry if and only if what it held is and so is the absolute
    value of each of the 32 products of the two blocks that fall on that entry. -/
theorem pay2_le (v3 : Vec Ideal S8x4096 .f32) (h : Vec Ideal S256x256 .bf16) (x : Vec Ideal S256x4096 .bf16) (a : Fin 8) (q : Fin 4096) (y : EReal) :
    k0_pay2 (F := Ideal) v3 h x (ix2 a q) ≤ y ↔ v3 (ix2 a q) ≤ y ∧ ∀ b : Fin 32, absE (∑ k : Fin 256, h (ix2 ⟨b.val * 8 + a.val, by omega⟩ k) * x (ix2 k q)) ≤ y := by
  unfold_payloads
  pointwise
  rw [neg_inf]
  refine max_le_iff.trans (and_congr Iff.rfl ?_)
  rw [Finset.fold_max_le]
  exact ⟨fun hh b => hh.2 b (Finset.mem_univ b), fun hh => ⟨bot_le, fun b _ => hh b⟩⟩

/-- The zero block the accumulator starts from. -/
theorem pay1_apply (j : S8x4096.Idx) : k0_pay1 (F := Ideal) j = 0 := by
  unfold_payloads
  pointwise

/-- The scale of a maximum: 1 for zero, else the maximum over the number of the printed word (2688). -/
def scaleOf (M : EReal) : EReal := if M = 0 then 1 else Ideal.div M (Ideal.ofBits FTy.f32 1160249344#32)

/-- The entry written back is the scale of the accumulator's maximum. -/
theorem pay3_eq (v : Vec Ideal S8x4096 .f32) (M : EReal) (hM : ∀ y, M ≤ y ↔ ∀ a q, (v (ix2 a q) : EReal) ≤ y) :
    k0_pay3 (F := Ideal) v = scaleOf M := by
  unfold_payloads
  pointwise
  rw [neg_inf]
  have e : ∀ y, Finset.fold max (⊥ : EReal) (fun x : Fin 8 × Fin 4096 => (v (ix2 x.1 x.2) : EReal)) Finset.univ ≤ y ↔ ∀ a q, (v (ix2 a q) : EReal) ≤ y := fun y => by
    rw [Finset.fold_max_le]
    exact ⟨fun hh a q => hh.2 (a, q) (Finset.mem_univ _), fun hh => ⟨bot_le, fun x _ => hh x.1 x.2⟩⟩
  have e' : Finset.fold max (⊥ : EReal) (fun x : Fin 8 × Fin 4096 => (v (ix2 x.1 x.2) : EReal)) Finset.univ = M :=
    le_antisymm ((e M).mpr ((hM M).mp le_rfl)) ((hM _).mpr ((e _).mp le_rfl))
  unfold scaleOf
  rw [← e']

variable (m : (ℓ : Loc nD τ sig) → Buf (Elt Ideal) ℓ)

/-- The rows of the argument with the indices as numbers (zero outside the array). -/
def X (c : Dev nD) (r q : ℕ) : EReal :=
  if h : r < 12288 ∧ q < 4096 then (m ((c : Thread nD τ).loc main_arg0) : Vec Ideal S8x1536x4096 .bf16) (ix3 ⟨r / 1536, by omega⟩ ⟨r % 1536, by omega⟩ ⟨q, h.2⟩) else 0

/-- The signed Hadamard matrix, as `X` is the argument. -/
def H (c : Dev nD) (i j : ℕ) : EReal :=
  if h : i < 16 ∧ j < 16 then (hm (F := Ideal) (m ((c : Thread nD τ).loc main_arg1)) : Vec Ideal S16x16 .f32) (ix2 ⟨i, h.1⟩ ⟨j, h.2⟩) else 0

/-- Equality of two small numbers compared as 32-bit words. -/
theorem eq_words : ∀ a b : Fin 16, IntOp.cmpi .eq (IntOp.addi (BitVec.ofNat 32 a.val) 0#32) (BitVec.ofNat 32 b.val) = if a = b then 1#1 else 0#1 := by decide

/-- The identity matrix the host operations build is 1 on the diagonal and 0 off it. -/
theorem eye_apply (a b : Fin 16) : eye (F := Ideal) (ix2 a b) = if a = b then 1 else 0 := by
  have h : eye (F := Ideal) (ix2 a b) = (((IntOp.cmpi .eq (IntOp.addi (BitVec.ofNat 32 a.val) 0#32) (BitVec.ofNat 32 b.val)).toNat : ℝ) : EReal) := by
    unfold eye
    rfl
  rw [h, eq_words]
  split <;> simp

/-- The printed index maps over the 48 points. -/
theorem idx_facts : ∀ t : Fin grid0.N, (win0_0.index t 0 = 0 ∧ win0_0.index t 1 = 0)
    ∧ (win0_1.index t 0 = t.val ∧ win0_1.index t 1 = 0) := by decide +kernel

/-- The block matrix: the 16 × 16 matrix on the diagonal blocks, zero elsewhere. -/
theorem V_v26_apply (c : Dev nD) (r k : Fin 256) : (V m c main_v26 : Vec Ideal S256x256 .bf16) (ix2 r k)
    = if r.val / 16 = k.val / 16 then H m c (r.val % 16) (k.val % 16) else 0 := by
  rw [V_v26]
  have hr := r.isLt
  have hk := k.isLt
  unfold H
  rw [dif_pos (by omega)]
  have hE := eye_apply ⟨r.val / 16, by omega⟩ ⟨k.val / 16, by omega⟩
  revert hE
  generalize hm (F := Ideal) (m ((c : Thread nD τ).loc main_arg1)) = w
  generalize eye (F := Ideal) = e
  intro hE
  pointwise
  rw [hE]
  by_cases hd : r.val / 16 = k.val / 16
  · rw [if_pos hd, if_pos (Fin.ext hd), one_mul]
  · rw [if_neg hd, if_neg (fun h => hd (congrArg Fin.val h)), zero_mul]

/-- The block matrix is the same at every point. -/
theorem iblk0 (c : Dev nD) (t : Fin cfg0.N) (r k : Fin 256) :
    (iblk m c 0 t : Vec Ideal S256x256 .bf16) (ix2 r k) = if r.val / 16 = k.val / 16 then H m c (r.val % 16) (k.val % 16) else 0 := by
  obtain ⟨⟨e0, e1⟩, _⟩ := idx_facts t
  rw [← V_v26_apply]
  unfold iblk
  rw [View.read_apply]
  show V m c main_v26 _ = V m c main_v26 _
  congr 1
  funext a
  apply Fin.ext
  match a with
  | ⟨0, _⟩ => show win0_0.index t 0 * 256 + 1 * r.val = r.val; rw [e0]; omega
  | ⟨1, _⟩ => show win0_0.index t 1 * 256 + 1 * k.val = k.val; rw [e1]; omega

/-- Row `k` of the block of rows at point `t` is row `256·t + k` of the argument. -/
theorem iblk1 (c : Dev nD) (t : Fin cfg0.N) (k : Fin 256) (q : Fin 4096) :
    (iblk m c 1 t : Vec Ideal S256x4096 .bf16) (ix2 k q) = X m c (256 * t.val + k.val) q.val := by
  have ht : t.val < 48 := lt_of_lt_of_eq t.isLt N_0
  obtain ⟨_, e0, e1⟩ := idx_facts t
  have hk := k.isLt
  have hq := q.isLt
  have hb : 256 * t.val + k.val < 12288 ∧ q.val < 4096 := by omega
  unfold X
  rw [dif_pos hb]
  unfold iblk
  rw [View.read_apply]
  show V m c main_v0 _ = m ((c : Thread nD τ).loc main_arg0) _
  rw [V_v0]
  refine shapeCast_apply _ _ _ _ ?_
  show (S8x1536x4096.rowMajor (ix3 ⟨(256 * t.val + k.val) / 1536, by omega⟩ ⟨(256 * t.val + k.val) % 1536, by omega⟩ ⟨q.val, hb.2⟩)).val = _
  rw [Shape.rowMajor_val_three, Shape.rowMajor_val_two]
  show ((256 * t.val + k.val) / 1536 * 1536 + (256 * t.val + k.val) % 1536) * 4096 + q.val
    = (win0_1.index t 0 * 256 + 1 * k.val) * 4096 + (win0_1.index t 1 * 4096 + 1 * q.val)
  rw [e0, e1]
  omega

/-- A sum over `n` blocks of `b` consecutive numbers is the sum over the first `b·n` numbers. -/
theorem sum_blocks (f : ℕ → EReal) (b : ℕ) : ∀ n, ∑ s ∈ Finset.range n, ∑ k : Fin b, f (b * s + k.val) = ∑ r ∈ Finset.range (b * n), f r
  | 0 => by simp
  | n + 1 => by
    rw [Finset.sum_range_succ, sum_blocks f b n, Nat.mul_succ, Finset.sum_range_add, Finset.sum_range (fun x => f (b * n + x))]

/-- Entry `(R, q)` of the transformed rows: the 16 rows of `R`'s group against row `R % 16` of the matrix. -/
def TR (c : Dev nD) (R q : ℕ) : EReal := ∑ j : Fin 16, H m c (R % 16) j.val * X m c (16 * (R / 16) + j.val) q

/-- A row of the block matrix against the 256 rows of point `t` is one entry of the transformed rows. -/
theorem row_eq (c : Dev nD) (t r q : ℕ) (hr : r < 256) :
    ∑ k : Fin 256, (if r / 16 = k.val / 16 then H m c (r % 16) (k.val % 16) else 0) * X m c (256 * t + k.val) q = TR m c (256 * t + r) q := by
  rw [← Finset.sum_range (fun k => (if r / 16 = k / 16 then H m c (r % 16) (k % 16) else 0) * X m c (256 * t + k) q),
    show (256 : ℕ) = 16 * 16 from rfl, ← sum_blocks _ 16 16]
  rw [Finset.sum_eq_single (r / 16)]
  · unfold TR
    refine Finset.sum_congr rfl fun j _ => ?_
    have hj := j.isLt
    rw [if_pos (by omega)]
    congr 2 <;> omega
  · intro g _ hg
    refine Finset.sum_eq_zero fun j _ => ?_
    have hj := j.isLt
    rw [if_neg (by omega), zero_mul]
  · intro h
    exact absurd (Finset.mem_range.mpr (by omega)) h

/-- What bounds one step of the accumulator over a block matrix `h` and the rows `x` of point `t`. -/
theorem step_le_of (c : Dev nD) (t : ℕ) (h : Vec Ideal S256x256 .bf16) (x : Vec Ideal S256x4096 .bf16)
    (hh : ∀ r k : Fin 256, h (ix2 r k) = if r.val / 16 = k.val / 16 then H m c (r.val % 16) (k.val % 16) else 0)
    (hx : ∀ (k : Fin 256) (q : Fin 4096), x (ix2 k q) = X m c (256 * t + k.val) q.val)
    (v : Vec Ideal S8x4096 .f32) (a : Fin 8) (q : Fin 4096) (y : EReal) :
    k0_pay2 (F := Ideal) v h x (ix2 a q) ≤ y ↔ v (ix2 a q) ≤ y
      ∧ ∀ b : Fin 32, absE (TR m c (256 * t + (b.val * 8 + a.val)) q.val) ≤ y := by
  rw [pay2_le]
  have e : ∀ b : Fin 32, (∑ k : Fin 256, h (ix2 ⟨b.val * 8 + a.val, by omega⟩ k) * x (ix2 k q))
      = TR m c (256 * t + (b.val * 8 + a.val)) q.val := fun b => by
    rw [← row_eq m c t (b.val * 8 + a.val) q.val (by omega)]
    simp only [hh, hx]
  simp only [e]

/-- What bounds one step of the accumulator at point `t`. -/
theorem step_le (c : Dev nD) (t : Fin cfg0.N) (v : Vec Ideal S8x4096 .f32) (a : Fin 8) (q : Fin 4096) (y : EReal) :
    k0_pay2 (F := Ideal) v (iblk m c 0 t) (iblk m c 1 t) (ix2 a q) ≤ y ↔ v (ix2 a q) ≤ y
      ∧ ∀ b : Fin 32, absE (TR m c (256 * t.val + (b.val * 8 + a.val)) q.val) ≤ y :=
  step_le_of m c t.val _ _ (iblk0 m c t) (iblk1 m c t) v a q y

/-- What bounds the accumulator after point `n`: zero, and every entry of the transformed rows seen so far. -/
theorem scratch_le (c : Dev nD) (a : Fin 8) (q : Fin 4096) (y : EReal) : ∀ (n : ℕ) (h : n < cfg0.N), n < 47 →
    ((outsAt0 m c n h).2 (ix2 a q) ≤ y ↔ 0 ≤ y ∧ ∀ s ≤ n, ∀ b : Fin 32, absE (TR m c (256 * s + (b.val * 8 + a.val)) q.val) ≤ y)
  | 0, h, _ => by
    rw [outsAt0_A m c ⟨0, h⟩ rfl (by show ¬ (0 % 48 = 47); decide)]
    dsimp only
    rw [sout_A, step_le, pay1_apply]
    refine and_congr Iff.rfl ⟨fun hh s hs b => ?_, fun hh b => hh 0 le_rfl b⟩
    obtain rfl : s = 0 := by omega
    exact hh b
  | n + 1, h, hn => by
    rw [outsAt0_B m c ⟨n + 1, h⟩ (by show ¬ ((n + 1) % 48 = 0); omega) (by show ¬ ((n + 1) % 48 = 47); omega)]
    dsimp only
    rw [sout_B, step_le]
    have ih := scratch_le c a q y n (Nat.lt_of_succ_lt h) (by omega)
    show (outsAt0 m c n _).2 (ix2 a q) ≤ y ∧ _ ↔ _
    rw [ih]
    refine ⟨fun hh => ⟨hh.1.1, fun s hs b => ?_⟩, fun hh => ⟨⟨hh.1, fun s hs b => hh.2 s (by omega) b⟩, fun b => hh.2 (n + 1) le_rfl b⟩⟩
    rcases Nat.lt_or_ge n s with h1 | h1
    · obtain rfl : s = n + 1 := by omega
      exact hh.2 b
    · exact hh.1.2 s h1 b

/-- Point 47 is in the grid. -/
theorem lt47 : 47 < cfg0.N := by show 47 < grid0.N; rw [N_0]; decide

/-- What bounds the accumulator at the last point: every entry of the transformed rows. -/
theorem last_le (c : Dev nD) (y : EReal) :
    (∀ a q, (k0_pay2 (F := Ideal) (outsAt0 m c 46 (Nat.lt_of_succ_lt lt47)).2 (iblk m c 0 ⟨47, lt47⟩) (iblk m c 1 ⟨47, lt47⟩) (ix2 a q) : EReal) ≤ y)
      ↔ ∀ R q : ℕ, R < 12288 → q < 4096 → absE (TR m c R q) ≤ y := by
  have h : ∀ (a : Fin 8) (q : Fin 4096), ((k0_pay2 (F := Ideal) (outsAt0 m c 46 (Nat.lt_of_succ_lt lt47)).2 (iblk m c 0 ⟨47, lt47⟩) (iblk m c 1 ⟨47, lt47⟩) (ix2 a q) : EReal) ≤ y)
      ↔ (0 ≤ y ∧ ∀ s ≤ 46, ∀ b : Fin 32, absE (TR m c (256 * s + (b.val * 8 + a.val)) q.val) ≤ y)
        ∧ ∀ b : Fin 32, absE (TR m c (256 * 47 + (b.val * 8 + a.val)) q.val) ≤ y := fun a q =>
    (step_le m c ⟨47, lt47⟩ _ a q y).trans (and_congr (scratch_le m c a q y 46 _ (by decide)) Iff.rfl)
  constructor
  · intro hh R q hR hq
    have h1 := (h ⟨R % 8, by omega⟩ ⟨q, hq⟩).mp (hh _ _)
    have e : 256 * (R / 256) + (R % 256 / 8 * 8 + R % 8) = R := by omega
    rcases Nat.lt_or_ge (R / 256) 47 with h2 | h2
    · have h3 := h1.1.2 (R / 256) (by omega) ⟨R % 256 / 8, by omega⟩
      dsimp only at h3
      rwa [e] at h3
    · have h3 := h1.2 ⟨R % 256 / 8, by omega⟩
      dsimp only at h3
      have e2 : R / 256 = 47 := by omega
      rw [e2] at e
      rwa [e] at h3
  · intro hh a q
    refine (h a q).mpr ⟨⟨le_trans (absE_nonneg _) (hh 0 0 (by decide) (by decide)), fun s hs b => hh _ _ (by omega) q.isLt⟩, fun b => hh _ _ (by omega) q.isLt⟩

/-- The result array is the one entry the last point leaves. -/
theorem final_eq (c : Dev nD) : (dats m 0 c).arrAt 2 cfg0.N
    = (fun _ => k0_pay3 (F := Ideal) (k0_pay2 (outsAt0 m c 46 (Nat.lt_of_succ_lt lt47)).2 (iblk m c 0 ⟨47, lt47⟩) (iblk m c 1 ⟨47, lt47⟩)) : S1.Idx → EReal) := by
  refine (dats m 0 c).arrAt_eq_of_covers 2 _ (by decide +kernel) fun t hf y => ?_
  have ht : t.val < 48 := lt_of_lt_of_eq t.isLt N_0
  have h47 : t.val % 48 = 47 := (flush0_2 t).mp hf
  obtain rfl : t = ⟨47, lt47⟩ := Fin.ext (by show t.val = 47; omega)
  rw [after0_2, outsAt0_C m c ⟨47, lt47⟩ (by show ¬ 47 % 48 = 0; decide) (by show 47 % 48 = 47; decide)]
  dsimp only
  rw [out_C]
  have e : ∀ (n : ℕ) (h : n < cfg0.N), n = 46 → k0_pay3 (F := Ideal) (k0_pay2 (outsAt0 m c n h).2 (iblk m c 0 ⟨47, lt47⟩) (iblk m c 1 ⟨47, lt47⟩))
      = k0_pay3 (F := Ideal) (k0_pay2 (outsAt0 m c 46 (Nat.lt_of_succ_lt lt47)).2 (iblk m c 0 ⟨47, lt47⟩) (iblk m c 1 ⟨47, lt47⟩)) := fun n h hn => by
    subst hn
    rfl
  exact (cast_eq _ _).trans (e _ _ rfl)

end Cert.XScaleIdeal.Hand

/-! ## The reference, and the claims -/

namespace Cert.XScaleClaims

open Cert.XScaleIdeal.Hand

/-- What bounds the reference's maximum: every entry of its transformed array. -/
theorem ref_le (x0 : (⟨Cert.XScaleRefIdeal.S8x1536x4096, .bf16⟩ : BufTy).Contents (Elt Ideal)) (x1 : (⟨Cert.XScaleRefIdeal.S16, .f32⟩ : BufTy).Contents (Elt Ideal))
    (i : Cert.XScaleRefIdeal.S_.Idx) (y : EReal) :
    Cert.XScaleRefIdeal.Read.val_main_v24 (F := Ideal) x0 x1 i ≤ y ↔
      ∀ (o : Fin 4096) (g : Fin 768) (j : Fin 16), absE (Cert.XScaleRefIdeal.Read.val_main_v20 (F := Ideal) x0 x1 (ix3 g o j)) ≤ y := by
  unfold Cert.XScaleRefIdeal.Read.val_main_v24 Cert.XScaleRefIdeal.Read.val_main_v23 Cert.XScaleRefIdeal.Read.val_main_v22
    Cert.XScaleRefIdeal.Read.val_main_v21 Cert.XScaleRefIdeal.Read.val_main_cst_3 Cert.XScaleRefIdeal.Read.val_main_cst_4
  generalize Cert.XScaleRefIdeal.Read.val_main_v20 (F := Ideal) x0 x1 = w
  pointwise
  rw [neg_inf, Finset.fold_max_le]
  have e : ∀ z : EReal, FloatOps.absf (F := Ideal) (φ := .f32) z = absE z := fun _ => rfl
  simp only [Finset.fold_max_le, e, bot_le, Finset.mem_univ, true_and, forall_true_left, Prod.forall]

/-- An entry of the reference's transformed array is that entry of the transformed rows. -/
theorem ref_entry (m : (ℓ : Loc Cert.XScaleIdeal.nD Cert.XScaleIdeal.τ Cert.XScaleIdeal.sig) → Buf (Elt Ideal) ℓ) (c : Dev Cert.XScaleIdeal.nD)
    (o : Fin 4096) (g : Fin 768) (j : Fin 16) :
    Cert.XScaleRefIdeal.Read.val_main_v20 (F := Ideal) (m ((c.tc : Thread Cert.XScaleIdeal.nD Cert.XScaleIdeal.τ).loc Cert.XScaleIdeal.main_arg0))
      (m ((c.tc : Thread Cert.XScaleIdeal.nD Cert.XScaleIdeal.τ).loc Cert.XScaleIdeal.main_arg1)) (ix3 g o j)
      = TR m c (16 * g.val + j.val) o.val := by
  have ho := o.isLt
  have hg := g.isLt
  have hj := j.isLt
  rw [Cert.XScaleRefIdeal.Read.val_main_v20_apply]
  unfold TR
  refine Finset.sum_congr rfl fun k _ => ?_
  have hk := k.isLt
  rw [mul_comm, Cert.XScaleRefIdeal.Read.val_main_v19_apply, Cert.XScaleRefIdeal.Read.val_main_v18_apply]
  have e1 : (16 * g.val + j.val) % 16 = j.val := by omega
  have e2 : (16 * g.val + j.val) / 16 = g.val := by omega
  unfold H X
  rw [e1, e2, dif_pos ⟨hj, hk⟩, dif_pos (by omega)]
  refine congrArg₂ (fun x y : EReal => x * y) (congrArg _ (funext fun a => Fin.ext ?_)) (congrArg (m _) (funext fun a => Fin.ext ?_))
  · match a with
    | ⟨0, _⟩ => rfl
    | ⟨1, _⟩ => rfl
  · match a with
    | ⟨0, _⟩ => show ((g.val * 16 + k.val) * 4096 + o.val) / 6291456 = (16 * g.val + k.val) / 1536; omega
    | ⟨1, _⟩ => show ((g.val * 16 + k.val) * 4096 + o.val) / 4096 % 1536 = (16 * g.val + k.val) % 1536; omega
    | ⟨2, _⟩ => show ((g.val * 16 + k.val) * 4096 + o.val) % 4096 = o.val; omega

/-- The reference's one entry is the scale of its maximum. -/
theorem ref_scale (x0 : (⟨Cert.XScaleRefIdeal.S8x1536x4096, .bf16⟩ : BufTy).Contents (Elt Ideal)) (x1 : (⟨Cert.XScaleRefIdeal.S16, .f32⟩ : BufTy).Contents (Elt Ideal))
    (j : Cert.XScaleRefIdeal.S1.Idx) :
    Cert.XScaleRefIdeal.Read.val_main_v28 (F := Ideal) x0 x1 j = scaleOf (Cert.XScaleRefIdeal.Read.val_main_v24 (F := Ideal) x0 x1 (fun a => a.elim0)) := by
  unfold Cert.XScaleRefIdeal.Read.val_main_v28
  have es : ∀ (x : Cert.XScaleRefIdeal.S_.Idx → EReal), shapeCast Cert.XScaleRefIdeal.S1 x Cert.XScaleRefIdeal.Gen.shapeCasts_S_S1 j = x (fun a => a.elim0) := fun x =>
    congrArg x (funext fun a => a.elim0)
  refine (es _).trans ?_
  rw [Cert.XScaleRefIdeal.Read.val_main_v27_apply, Cert.XScaleRefIdeal.Read.val_main_v26_apply, Cert.XScaleRefIdeal.Read.val_main_v25_apply,
    Cert.XScaleRefIdeal.Read.val_main_call1_v0_apply, Cert.XScaleRefIdeal.Read.val_main_cst_7_apply, Cert.XScaleRefIdeal.Read.val_main_cst_6_apply, Cert.XScaleRefIdeal.Read.val_main_cst_5_apply]
  generalize Cert.XScaleRefIdeal.Read.val_main_v24 (F := Ideal) x0 x1 _ = M
  unfold scaleOf
  pointwise

/-- The reference's result on the same arrays is the call's. -/
theorem ref_eq (m : (ℓ : Loc Cert.XScaleIdeal.nD Cert.XScaleIdeal.τ Cert.XScaleIdeal.sig) → Buf (Elt Ideal) ℓ) (c : Dev Cert.XScaleIdeal.nD) :
    Cert.XScaleRefIdeal.Read.val_main_v28 (F := Ideal) (m ((c.tc : Thread Cert.XScaleIdeal.nD Cert.XScaleIdeal.τ).loc Cert.XScaleIdeal.main_arg0))
      (m ((c.tc : Thread Cert.XScaleIdeal.nD Cert.XScaleIdeal.τ).loc Cert.XScaleIdeal.main_arg1)) = (Cert.XScaleIdeal.Gen.dats m 0 c).arrAt 2 Cert.XScaleIdeal.cfg0.N := by
  rw [final_eq]
  funext j
  rw [ref_scale]
  refine (pay3_eq _ _ fun y => ?_).symm
  rw [ref_le, last_le]
  constructor
  · intro hh R q hR hq
    have h := hh ⟨q, hq⟩ ⟨R / 16, by omega⟩ ⟨R % 16, by omega⟩
    rw [ref_entry] at h
    dsimp only at h
    rwa [Nat.div_add_mod] at h
  · intro hh o g i
    rw [ref_entry]
    exact hh _ _ (by omega) o.isLt

/-- The global-scale call on the activations leaves the reference's entry, over the extended reals. -/
theorem algebraic : Cert.algebraic_XScaleIdeal_XScaleRefIdeal := by
  intro m ρ m' ρ' _ hagree
  refine ⟨fun c => (Cert.XScaleIdeal.Gen.dats m 0 c).arrAt 2 Cert.XScaleIdeal.cfg0.N, Cert.XScaleIdeal.Value.run_blocks (F := Ideal) m ρ, ?_⟩
  refine (θ_run Cert.XScaleRefIdeal.defs _ _).mono (fun r h c => ?_) (Cert.XScaleRefIdeal.Value.run (F := Ideal) m' ρ')
  obtain ⟨h0, h1⟩ := hagree c
  refine ⟨?_, (h c).2⟩
  rw [(h c).1, Cert.XScaleRefIdeal.Read.val_main_v28_eq, h0, h1]
  exact ref_eq m c

/-- The kernel as written runs to the end with its arguments unchanged and every semaphore back at zero. -/
theorem frame : Cert.quiescent_XScale := fun m ρ _ => Cert.XScale.Gen.frame m ρ

/-- So does the kernel over the extended reals. -/
theorem frameI : Cert.quiescent_XScaleIdeal := fun m ρ _ => Cert.XScaleIdeal.Gen.frame m ρ

/-- So does the reference over them. -/
theorem frameR : Cert.quiescent_XScaleRefIdeal := fun m ρ _ =>
  (θ_run Cert.XScaleRefIdeal.defs _ _).mono (fun r h => ⟨fun c => (h c).2,
      Idealize.ShloMosaic.sem_eq_zero_of_no_sems (by decide) r.2⟩)
    (Cert.XScaleRefIdeal.Value.run (F := Ideal) m ρ)

end Cert.XScaleClaims
-- ==== Proof.Butterfly.lean ====
/- A transform of 16 numbers done by four rounds of sums and differences, and the same transform as 16 signed sums:
   over the extended reals their absolute values agree. Hand-written, untrusted. -/
module

public import Mathlib.Data.EReal.Operations
public import Mathlib.Algebra.BigOperators.Fin
public import Mathlib.Tactic.Ring
public import Mathlib.Tactic.FinCases

@[expose] public section

open scoped BigOperators

namespace Cert.Butterfly

/-- The absolute value of an extended real. -/
noncomputable def absE (z : EReal) : EReal := max z (-z)

/-- The index that differs from `i` in bit `n`. -/
def flip (n : ℕ) (i : Fin 16) : Fin 16 := ⟨(i.val ^^^ 2 ^ n) % 16, Nat.mod_lt _ (by decide)⟩

/-- `n` rounds of sums and differences: round `n` pairs the indices that differ in bit `n`. -/
noncomputable def bf (y : Fin 16 → EReal) : ℕ → Fin 16 → EReal
  | 0, i => y i
  | n + 1, i => bif i.val.testBit n then bf y n (flip n i) - bf y n i else bf y n i + bf y n (flip n i)

/-- The same over the reals. -/
noncomputable def bfR (y : Fin 16 → ℝ) : ℕ → Fin 16 → ℝ
  | 0, i => y i
  | n + 1, i => bif i.val.testBit n then bfR y n (flip n i) - bfR y n i else bfR y n i + bfR y n (flip n i)

/-- Whether `i` and `j` have an odd number of bits in common. -/
def odd (i j : Fin 16) : Bool :=
  (((i.val &&& j.val).testBit 0 ^^ (i.val &&& j.val).testBit 1) ^^ (i.val &&& j.val).testBit 2) ^^ (i.val &&& j.val).testBit 3

/-- On real numbers the rounds stay real. -/
theorem bf_coe (r : Fin 16 → ℝ) : ∀ (n : ℕ) (i : Fin 16), bf (fun j => (r j : EReal)) n i = ((bfR r n i : ℝ) : EReal)
  | 0, i => rfl
  | n + 1, i => by
    unfold bf bfR
    rw [bf_coe r n i, bf_coe r n _]
    cases i.val.testBit n
    · exact (EReal.coe_add _ _).symm
    · exact (EReal.coe_sub _ _).symm

/-- The sign of a term. -/
def sg (i j : Fin 16) : ℝ := bif odd i j then -1 else 1

/-- Over the reals four rounds are the 16 signed sums. -/
theorem bfR_eq (r : Fin 16 → ℝ) (i : Fin 16) : bfR r 4 i = ∑ j : Fin 16, sg i j * r j := by
  simp only [Fin.sum_univ_succ, Fin.sum_univ_zero]
  fin_cases i <;>
  · simp [bfR, sg, odd, flip, Nat.testBit]
    ring

/-- An infinite number. -/
def Inf (z : EReal) : Prop := z = ⊤ ∨ z = ⊥

theorem Inf.neg {z : EReal} (h : Inf z) : Inf (-z) := by
  rcases h with rfl | rfl
  · exact Or.inr EReal.neg_top
  · exact Or.inl EReal.neg_bot

theorem Inf.add_left {u : EReal} (v : EReal) (h : Inf u) : Inf (u + v) := by
  rcases h with rfl | rfl
  · induction v using EReal.rec with
    | bot => exact Or.inr (EReal.add_bot _)
    | coe r => exact Or.inl (EReal.top_add_coe r)
    | top => exact Or.inl EReal.top_add_top
  · exact Or.inr (EReal.bot_add _)

theorem Inf.add_right (u : EReal) {v : EReal} (h : Inf v) : Inf (u + v) := add_comm v u ▸ h.add_left u

theorem Inf.sub_left {u : EReal} (v : EReal) (h : Inf u) : Inf (u - v) := by
  rw [sub_eq_add_neg]
  exact h.add_left _

theorem Inf.sub_right (u : EReal) {v : EReal} (h : Inf v) : Inf (u - v) := by
  rw [sub_eq_add_neg]
  exact h.neg.add_right _

/-- The absolute value of an infinite number. -/
theorem Inf.abs {z : EReal} (h : Inf z) : absE z = ⊤ := by
  unfold absE
  rcases h with rfl | rfl
  · exact max_eq_left le_top
  · rw [EReal.neg_bot]
    exact max_eq_right bot_le

/-- The two indices a round pairs: one of them agrees with `j` above bit `n` if `i` agrees with `j` above bit `n + 1`. -/
theorem pair_or : ∀ (n : Fin 4) (i j : Fin 16), i.val >>> (n.val + 1) = j.val >>> (n.val + 1) →
    i.val >>> n.val = j.val >>> n.val ∨ (flip n.val i).val >>> n.val = j.val >>> n.val := by decide

/-- An infinite number makes infinite what the rounds make of it. -/
theorem bf_inf (y : Fin 16 → EReal) (j : Fin 16) (hj : Inf (y j)) :
    ∀ (n : ℕ) (_ : n ≤ 4) (i : Fin 16) (_ : i.val >>> n = j.val >>> n), Inf (bf y n i)
  | 0, _, i, h => by
    have e : i = j := Fin.ext h
    rw [e]
    exact hj
  | n + 1, hn, i, h => by
    have hp := pair_or ⟨n, hn⟩ i j h
    dsimp only at hp
    unfold bf
    cases i.val.testBit n
    · rcases hp with e | e
      · exact (bf_inf y j hj n (by omega) i e).add_left _
      · exact (bf_inf y j hj n (by omega) _ e).add_right _
    · rcases hp with e | e
      · exact (bf_inf y j hj n (by omega) i e).sub_right _
      · exact (bf_inf y j hj n (by omega) _ e).sub_left _

/-- The absolute value of a number the four rounds leave is that of the signed sum. -/
theorem abs_bf (y : Fin 16 → EReal) (i : Fin 16) : absE (bf y 4 i) = absE (∑ j : Fin 16, ((sg i j : ℝ) : EReal) * y j) := by
  by_cases h : ∃ j, Inf (y j)
  · obtain ⟨j, hj⟩ := h
    have h1 : Inf (bf y 4 i) := bf_inf y j hj 4 le_rfl i (by
      have h1 := i.isLt
      have h2 := j.isLt
      rw [Nat.shiftRight_eq_div_pow, Nat.shiftRight_eq_div_pow]
      omega)
    have h2 : Inf (∑ k : Fin 16, ((sg i k : ℝ) : EReal) * y k) := by
      rw [← Finset.add_sum_erase _ _ (Finset.mem_univ j)]
      refine Inf.add_left _ ?_
      unfold sg
      cases odd i j
      · show Inf (((1 : ℝ) : EReal) * y j)
        rw [EReal.coe_one, one_mul]
        exact hj
      · show Inf (((-1 : ℝ) : EReal) * y j)
        rw [EReal.coe_neg, EReal.coe_one, neg_one_mul]
        exact hj.neg
    rw [h1.abs, h2.abs]
  · have hf : ∀ j, y j = (((y j).toReal : ℝ) : EReal) := fun j =>
      (EReal.coe_toReal (fun e => h ⟨j, Or.inl e⟩) (fun e => h ⟨j, Or.inr e⟩)).symm
    have hy : y = fun j => (((y j).toReal : ℝ) : EReal) := funext hf
    rw [hy, bf_coe, bfR_eq]
    congr 1

end Cert.Butterfly
-- ==== Proof.XBlkKernel.lean ====
/- The block scales a point of the quantising call leaves, read off its stores: sixteen pieces, one per unit of eight
   blocks, are one function of the operands. Hand-written, untrusted. -/
module

public import proofs.«01_k».proof.Defs
public import proofs.«01_k».proof.Proof.Gen.XBlkIdeal.Value
public import proofs.«01_k».proof.Proof.Butterfly
public import Idealize.ShloMosaic.Lib.Pointwise
public import Idealize.ShloMosaic.Lib.WholeRead
public import Idealize.ShloMosaic.Lib.Pipeline.ReadBack
public import Idealize.ShloMosaic.Lib.Pipeline.Value
public import Idealize.ShloMosaic.Lib.Pipeline.ValueKit
public import Idealize.ShloMosaic.Lib.Tactic
public import Idealize.ShloMosaic.Lib.Quiescent
public import Idealize.ShloMosaic.PureOps.Ideal.Laws

@[expose] public section

set_option maxRecDepth 16384

noncomputable section

open Idealize.ShloMosaic Idealize.ShloMosaic.TcCoe Idealize.SL.Sem
open scoped BigOperators

namespace Cert.XBlkIdeal.Hand

open Cert.XBlkIdeal Cert.XBlkIdeal.Gen Cert.XBlkIdeal.Value

section AnyF
variable {F : FTy → Type} [FloatOps F]

/-- The offset of a whole two-axis block. -/
theorem hz : (![0, 0] : Fin 2 → Nat) = fun _ => 0 := funext fun a => by fin_cases a <;> rfl

/-- The 16 signed values of a unit's block: the value at an even place from the even rows, at an odd place from the odd rows. -/
def Yv (R : Fin 8 → Vec F S8x2x128 .bf16) (T : Fin 8 → Vec F S16x128 .bf16) (j : Fin 16) : FVec F S8x128 .f32 :=
  bif j.val.testBit 0 then k0_pay8 (R ⟨j.val / 2, by omega⟩) (T ⟨j.val / 2, by omega⟩) else k0_pay7 (R ⟨j.val / 2, by omega⟩) (T ⟨j.val / 2, by omega⟩)

/-- Rounds of sums and differences of vectors. -/
def bfV (y : Fin 16 → FVec F S8x128 .f32) : ℕ → Fin 16 → FVec F S8x128 .f32
  | 0, i => y i
  | n + 1, i => bif i.val.testBit n then subf (bfV y n (Butterfly.flip n i)) (bfV y n i) else addf (bfV y n i) (bfV y n (Butterfly.flip n i))

/-- The block scales of one unit, from the absolute values of its 16 transformed vectors. -/
def unitS (g : Elt F .f32) (z : Fin 16 → FVec F S8x128 .f32) : FVec F S8x128 .f32 :=
  k0_pay109 g (absf (z 5)) (absf (z 6)) (absf (z 7)) (absf (z 8)) (absf (z 9)) (absf (z 10)) (absf (z 11)) (absf (z 12)) (absf (z 13)) (absf (z 14)) (absf (z 15))
    (maximumf (maximumf (maximumf (maximumf (absf (z 0)) (absf (z 1))) (absf (z 2))) (absf (z 3))) (absf (z 4)))

/-- A unit's rows lie inside the block of rows. -/
theorem rl_inb (n : ℕ) (hn : n + 56 < 1024) : ∀ a, S8x2x128.size a = 0 ∨ (![n, 0, 0] : Fin 3 → ℕ) a + (![8, 1, 1] : Fin 3 → ℕ) a * (S8x2x128.size a - 1) < S1024x2x128.size a := by
  intro a
  right
  match a with
  | ⟨0, _⟩ => show n + 8 * 7 < 1024; omega
  | ⟨1, _⟩ => show 0 + 1 * 1 < 2; omega
  | ⟨2, _⟩ => show 0 + 1 * 127 < 128; omega

/-- The rows of one unit, as loaded. -/
def Rl (arg4 : Memref sig .tc .vmem S2048x128 .bf16) (harg4 : arg4.IsWhole) (x2 : Vec F S2048x128 .bf16) (u : Fin 16) (s : Fin 8) : Vec F S8x2x128 .bf16 :=
  View.readAt (Elt F) (arg4.reshape S1024x2x128 reshapes_S2048x128_S1024x2x128.1 reshapes_S2048x128_S1024x2x128.2 harg4.contiguous).view
    (⟨![64 * u.val + s.val, 0, 0], S8x2x128.size, ![8, 1, 1], rl_inb _ (by omega)⟩ : LoadRect S1024x2x128) (harg4.unread x2)

/-- A step's signs lie inside the tile of signs. -/
theorem tl_inb (n : ℕ) (hn : n + 16 ≤ 128) : ∀ a, (![n, 0] : Fin 2 → ℕ) a + S16x128.size a ≤ S128x128.size a := by
  intro a
  match a with
  | ⟨0, _⟩ => show n + 16 ≤ 128; omega
  | ⟨1, _⟩ => show 0 + 128 ≤ 128; omega

/-- The signs, as loaded. -/
def Tl (arg3 : Memref sig .tc .vmem S128x128 .bf16) (harg3 : arg3.IsWhole) (x1 : Vec F S128x128 .bf16) (s : Fin 8) : Vec F S16x128 .bf16 :=
  View.readAt (Elt F) arg3.view (Rect.unit (s := S128x128) ![16 * s.val, 0] S16x128.size (tl_inb _ (by omega))).toLoadRect (harg3.unread x1)

/-- The rows of one unit. -/
def Rx (x2 : Vec F S2048x128 .bf16) (u : Fin 16) (s : Fin 8) : Vec F S8x2x128 .bf16 :=
  fun x => x2 (ix2 ⟨16 * (8 * u.val + (x 0).val) + 2 * s.val + (x 1).val, by
    have h0 : (x 0).val < 8 := (x 0).isLt
    have h1 : (x 1).val < 2 := (x 1).isLt
    omega⟩ (x 2))

/-- The signs of one unit. -/
def Tx (x1 : Vec F S128x128 .bf16) (s : Fin 8) : Vec F S16x128 .bf16 :=
  fun x => x1 (ix2 ⟨16 * s.val + (x 0).val, by
    have h0 : (x 0).val < 16 := (x 0).isLt
    omega⟩ (x 1))

/-- The rows loaded are the rows of the unit. -/
theorem Rl_eq (arg4 : Memref sig .tc .vmem S2048x128 .bf16) (harg4 : arg4.IsWhole) (x2 : Vec F S2048x128 .bf16) : Rl arg4 harg4 x2 = Rx x2 := by
  funext u s x
  have h0 : (x 0).val < 8 := (x 0).isLt
  have h1 : (x 1).val < 2 := (x 1).isLt
  have h2 : (x 2).val < 128 := (x 2).isLt
  have hu := u.isLt
  have hs := s.isLt
  unfold Rl Rx
  refine Eq.trans (show _ = shapeCast S1024x2x128 x2 reshapes_S2048x128_S1024x2x128.1 _ from congrFun (harg4.read_unread x2) _) (shapeCast_apply _ _ _ _ ?_)
  rw [Shape.rowMajor_val_three, Shape.rowMajor_val_two]
  show (16 * (8 * u.val + (x 0).val) + 2 * s.val + (x 1).val) * 128 + (x 2).val
    = ((64 * u.val + s.val + 8 * (x 0).val) * 2 + (0 + 1 * (x 1).val)) * 128 + (0 + 1 * (x 2).val)
  omega

/-- The signs loaded are the signs of the step. -/
theorem Tl_eq (arg3 : Memref sig .tc .vmem S128x128 .bf16) (harg3 : arg3.IsWhole) (x1 : Vec F S128x128 .bf16) : Tl arg3 harg3 x1 = Tx x1 := by
  funext s x
  unfold Tl Tx
  rw [harg3.readAt_unread]
  refine congrArg x1 (funext fun a => Fin.ext ?_)
  match a with
  | ⟨0, _⟩ => show 16 * s.val + 1 * (x 0).val = 16 * s.val + (x 0).val; omega
  | ⟨1, _⟩ => show 0 + 1 * (x 1).val = (x 1).val; omega

/-- The block scales the scratch holds before they are written out: row `8·u + r` is row `r` of unit `u`. -/
def G (g : Elt F .f32) (x1 : Vec F S128x128 .bf16) (x2 : Vec F S2048x128 .bf16) : Vec F S128x128 .f32 :=
  fun y => unitS g (bfV (Yv (Rx x2 ⟨(y 0).val / 8, by
    have h0 : (y 0).val < 128 := (y 0).isLt
    omega⟩) (Tx x1)) 4) (ix2 ⟨(y 0).val % 8, Nat.mod_lt _ (by decide)⟩ (y 1))

/-- A stored piece that holds the block scales of unit `u` agrees with `G` where it lies. -/
theorem piece (g : Elt F .f32) (arg3 : Memref sig .tc .vmem S128x128 .bf16) (harg3 : arg3.IsWhole) (x1 : Vec F S128x128 .bf16)
   (arg4 : Memref sig .tc .vmem S2048x128 .bf16) (harg4 : arg4.IsWhole) (x2 : Vec F S2048x128 .bf16) (u : Fin 16) (P : FVec F S8x128 .f32)
   (hP : P = unitS g (bfV (Yv (Rl arg4 harg4 x2 u) (Tl arg3 harg3 x1)) 4)) (n : ℕ) (hn : 8 * u.val = n) (inb : ∀ a, (![n, 0] : Fin 2 → ℕ) a + S8x128.size a ≤ S128x128.size a) :
   ∀ x : (Rect.unit (s := S128x128) ![n, 0] S8x128.size inb).shape.Idx, P x = G g x1 x2 ((Rect.unit (s := S128x128) ![n, 0] S8x128.size inb).emb x) := by
  intro x
  subst hn
  have h0 : (x 0).val < 8 := (x 0).isLt
  rw [hP, Rl_eq, Tl_eq]
  unfold G
  have e1 : (8 * u.val + 1 * (x 0).val) / 8 = u.val := by omega
  have e2 : (8 * u.val + 1 * (x 0).val) % 8 = (x 0).val := by omega
  refine congr (congrArg (fun v => unitS g (bfV (Yv (Rx x2 v) (Tx x1)) 4)) (Fin.ext e1.symm)) (funext fun a => Fin.ext ?_)
  match a with
  | ⟨0, _⟩ => exact e2.symm
  | ⟨1, _⟩ => show (x 1).val = 0 + 1 * (x 1).val; omega

/-- A list of pieces agrees with `G` when its first piece holds a unit's block scales and the rest of it agrees. -/
theorem pieces (g : Elt F .f32) (arg3 : Memref sig .tc .vmem S128x128 .bf16) (harg3 : arg3.IsWhole) (x1 : Vec F S128x128 .bf16)
   (arg4 : Memref sig .tc .vmem S2048x128 .bf16) (harg4 : arg4.IsWhole) (x2 : Vec F S2048x128 .bf16) (u : Fin 16) (n : ℕ) (hn : 8 * u.val = n)
   (inb : ∀ a, (![n, 0] : Fin 2 → ℕ) a + S8x128.size a ≤ S128x128.size a) (P : FVec F S8x128 .f32) (L : List (View.Piece (Elt F) S128x128 .f32))
   (hP : P = unitS g (bfV (Yv (Rl arg4 harg4 x2 u) (Tl arg3 harg3 x1)) 4)) (hL : View.PiecesOf (G g x1 x2) L) :
   View.PiecesOf (G g x1 x2) ((⟨Rect.unit (s := S128x128) ![n, 0] S8x128.size inb, P⟩ : View.Piece (Elt F) S128x128 .f32) :: L) :=
  ⟨piece g arg3 harg3 x1 arg4 harg4 x2 u P hP n hn inb, hL⟩

/-- The scalar the call reads. -/
def gl (arg2 : Memref sig .tc .smem S1 .f32) (harg2 : arg2.IsWhole) (x0 : Vec F S1 .f32) : Elt F .f32 :=
  View.readAt (Elt F) arg2.view (Rect.unit (s := S1) ![0] S1.size inb_S1_S1_0).toLoadRect (harg2.unread x0) (Shape.Idx.first (by decide))

set_option maxHeartbeats 4000000 in
/-- What a point leaves in its block of scales: `G` transposed and cast, one piece per unit. -/
theorem out_4 (c : Dev nD) (i : grid0.Coords) (arg2 : Memref sig .tc .smem S1 .f32) (harg2 : arg2.IsWhole) (arg3 : Memref sig .tc .vmem S128x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S2048x128 .bf16) (harg7 : arg7.IsWhole) (arg8 : Memref sig .tc .vmem S256x128 .i32) (harg8 : arg8.IsWhole) (arg9 : Memref sig .tc .vmem S128x128 .f32) (harg9 : arg9.IsWhole)
    (x0 : Vec F S1 .f32) (x1 : Vec F S128x128 .bf16) (x2 : Vec F S2048x128 .bf16) :
    out0_A_4 c i arg2 harg2 arg3 harg3 arg4 harg4 arg5 harg5 arg6 harg6 arg7 harg7 arg8 harg8 arg9 harg9 x0 x1 x2 = k0_pay5 (G (gl arg2 harg2 x0) x1 x2) := by
  unfold out0_A_4
  rw [View.read_writes_eq_canon _ _ _ (cover0_A_4 c i arg2 harg2 arg3 harg3 arg4 harg4 arg5 harg5 arg6 harg6 arg7 harg7 arg8 harg8 arg9 harg9 x0 x1 x2)]
  unfold kernelRun0_A
  dsimp only
  sl_unfold_words
  rw [View.canon_unit_zero hz, View.readCov_eq_canon']
  refine congrArg k0_pay5 (funext fun (y : S128x128.Idx) => ?_)
  have hy : ((Rect.unit (s := S128x128) ![0, 0] S128x128.size inb_S128x128_S128x128_0_0).toLoadRect.idx y) = y := by
    funext a
    apply Fin.ext
    match a with
    | ⟨0, _⟩ => show 0 + 1 * (y 0).val = (y 0).val; omega
    | ⟨1, _⟩ => show 0 + 1 * (y 1).val = (y 1).val; omega
  refine (congrArg _ hy).trans ?_
  refine View.canon_apply_of_pieces _ _ (View.PiecesOf.mem ?_) y (View.cover_of_tiledL (s := S128x128) _ S8x128.size (by sl_kernel_rfl) y)
  refine pieces (gl arg2 harg2 x0) arg3 harg3 x1 arg4 harg4 x2 3 24 rfl inb_S128x128_S8x128_24_0 _ _ ?_ ?_
  · sl_kernel_rfl
  refine pieces (gl arg2 harg2 x0) arg3 harg3 x1 arg4 harg4 x2 7 56 rfl inb_S128x128_S8x128_56_0 _ _ ?_ ?_
  · sl_kernel_rfl
  refine pieces (gl arg2 harg2 x0) arg3 harg3 x1 arg4 harg4 x2 11 88 rfl inb_S128x128_S8x128_88_0 _ _ ?_ ?_
  · sl_kernel_rfl
  refine pieces (gl arg2 harg2 x0) arg3 harg3 x1 arg4 harg4 x2 15 120 rfl inb_S128x128_S8x128_120_0 _ _ ?_ ?_
  · sl_kernel_rfl
  refine pieces (gl arg2 harg2 x0) arg3 harg3 x1 arg4 harg4 x2 2 16 rfl inb_S128x128_S8x128_16_0 _ _ ?_ ?_
  · sl_kernel_rfl
  refine pieces (gl arg2 harg2 x0) arg3 harg3 x1 arg4 harg4 x2 6 48 rfl inb_S128x128_S8x128_48_0 _ _ ?_ ?_
  · sl_kernel_rfl
  refine pieces (gl arg2 harg2 x0) arg3 harg3 x1 arg4 harg4 x2 10 80 rfl inb_S128x128_S8x128_80_0 _ _ ?_ ?_
  · sl_kernel_rfl
  refine pieces (gl arg2 harg2 x0) arg3 harg3 x1 arg4 harg4 x2 14 112 rfl inb_S128x128_S8x128_112_0 _ _ ?_ ?_
  · sl_kernel_rfl
  refine pieces (gl arg2 harg2 x0) arg3 harg3 x1 arg4 harg4 x2 1 8 rfl inb_S128x128_S8x128_8_0 _ _ ?_ ?_
  · sl_kernel_rfl
  refine pieces (gl arg2 harg2 x0) arg3 harg3 x1 arg4 harg4 x2 5 40 rfl inb_S128x128_S8x128_40_0 _ _ ?_ ?_
  · sl_kernel_rfl
  refine pieces (gl arg2 harg2 x0) arg3 harg3 x1 arg4 harg4 x2 9 72 rfl inb_S128x128_S8x128_72_0 _ _ ?_ ?_
  · sl_kernel_rfl
  refine pieces (gl arg2 harg2 x0) arg3 harg3 x1 arg4 harg4 x2 13 104 rfl inb_S128x128_S8x128_104_0 _ _ ?_ ?_
  · sl_kernel_rfl
  refine pieces (gl arg2 harg2 x0) arg3 harg3 x1 arg4 harg4 x2 0 0 rfl inb_S128x128_S8x128_0_0 _ _ ?_ ?_
  · sl_kernel_rfl
  refine pieces (gl arg2 harg2 x0) arg3 harg3 x1 arg4 harg4 x2 4 32 rfl inb_S128x128_S8x128_32_0 _ _ ?_ ?_
  · sl_kernel_rfl
  refine pieces (gl arg2 harg2 x0) arg3 harg3 x1 arg4 harg4 x2 8 64 rfl inb_S128x128_S8x128_64_0 _ _ ?_ ?_
  · sl_kernel_rfl
  refine pieces (gl arg2 harg2 x0) arg3 harg3 x1 arg4 harg4 x2 12 96 rfl inb_S128x128_S8x128_96_0 _ _ ?_ ?_
  · sl_kernel_rfl
  trivial
end AnyF

end Cert.XBlkIdeal.Hand
-- ==== Proof.XBlkRef.lean ====
/- The reference of the block scales, entry by entry over the extended reals. Hand-written, untrusted. -/
module

public import proofs.«01_k».proof.Defs
public import proofs.«01_k».proof.Proof.Gen.XBlkRefIdeal.Value
public import proofs.«01_k».proof.Proof.Butterfly
public import Idealize.ShloMosaic.Lib.Pointwise
public import Idealize.ShloMosaic.Lib.Pipeline.Value
public import Idealize.ShloMosaic.Lib.Pipeline.ValueKit
public import Idealize.ShloMosaic.Lib.Tactic
public import Idealize.ShloMosaic.Lib.Quiescent
public import Idealize.ShloMosaic.PureOps.Ideal.Laws

@[expose] public section

set_option maxRecDepth 16384

noncomputable section

open Idealize.ShloMosaic Idealize.ShloMosaic.TcCoe Idealize.SL.Sem
open scoped BigOperators

namespace Cert.XBlkRefIdeal.Hand

open Cert.XBlkRefIdeal Cert.XBlkRefIdeal.Gen Cert.XBlkRefIdeal.Value

section AnyF
variable {F : FTy → Type} [FloatOps F]
variable (m : (ℓ : Loc nD τ sig) → Buf (Elt F) ℓ)

/-- The signed matrix as the host operations build it. -/
def hm (x1 : (⟨S16, .f32⟩ : BufTy).Contents (Elt F)) : Vec F S16x16 .f32 :=
  mulf (mulf (broadcastInDim S16x16 ![] bcast_S_S16x16 (constant S_ .f32 0x3E800000#32))
     (select (cmpi .eq (andi (ctpop (andi (broadcastInDim S16x16 ![0, 1] bcast_S16x1_S16x16_0_1 (broadcastInDim S16x1 ![0] bcast_S16_S16x1_0 (iotaInDim S16 32 0)))
        (broadcastInDim S16x16 ![0, 1] bcast_S1x16_S16x16_0_1 (broadcastInDim S1x16 ![1] bcast_S16_S1x16_1 (iotaInDim S16 32 0)))))
        (broadcastInDim S16x16 ![] bcast_S_S16x16 (constantI S_ 32 1#32))) (broadcastInDim S16x16 ![] bcast_S_S16x16 (constantI S_ 32 1#32)))
        (broadcastInDim S16x16 ![] bcast_S_S16x16 (constant S_ .f32 0xBF800000#32)) (broadcastInDim S16x16 ![] bcast_S_S16x16 (constant S_ .f32 0x3F800000#32))))
    (broadcastInDim S16x16 ![0, 1] bcast_S1x16_S16x16_0_1 (broadcastInDim S1x16 ![1] bcast_S16_S1x16_1 x1))

/-- The transformed array, group by group. -/
def zz (x0 : (⟨S12288x4096, .bf16⟩ : BufTy).Contents (Elt F)) (x1 : (⟨S16, .f32⟩ : BufTy).Contents (Elt F)) : Vec F S768x4096x16 .f32 :=
  Host.dotGeneral dot_S768x16x4096_S16x16_S768x4096x16_1_1_02_0_n_n (some .fp32)
    (shapeCast S768x16x4096 (extf .f32 (x0 : Vec F S12288x4096 .bf16) bitsLt_bf16_f32 : Vec F S12288x4096 .f32) shapeCasts_S12288x4096_S768x16x4096) (hm x1)

/-- The largest absolute value of each block. -/
def amax (x0 : (⟨S12288x4096, .bf16⟩ : BufTy).Contents (Elt F)) (x1 : (⟨S16, .f32⟩ : BufTy).Contents (Elt F)) : Vec F S4096x768 .f32 :=
  Host.reduce FloatOps.maximumf (Host.absf (transpose S4096x768x16 [1, 0, 2] (zz x0 x1) transposes_S768x4096x16_S4096x768x16_1_0_2)) (constant S_ .f32 0xFF800000#32) reducesTo_S4096x768x16_S4096x768_d2 h_S_

/-- The block scales before their cast. -/
def scales (a : Vec F S4096x768 .f32) (x2 : (⟨S1, .f32⟩ : BufTy).Contents (Elt F)) : Vec F S4096x768 .f32 :=
  minimumf (broadcastInDim S4096x768 ![] bcast_S_S4096x768 (constant S_ .f32 0x43E00000#32))
    (maximumf (broadcastInDim S4096x768 ![] bcast_S_S4096x768 (constant S_ .f32 0x00000000#32))
      (Host.divf (mulf a (broadcastInDim S4096x768 ![] bcast_S_S4096x768 (constant S_ .f32 0x3F800800#32)))
        (broadcastInDim S4096x768 ![] bcast_S_S4096x768 (mulf (constant S_ .f32 0x40C00000#32) (shapeCast S_ (x2 : Vec F S1 .f32) shapeCasts_S1_S_)))))

set_option maxRecDepth 200000 in
/-- The entries the last call finds. -/
theorem V_v30 (c : Dev nD) : (V m c main_v30 : Vec F S4096x768 .f32)
    = scales (amax (m ((c : Thread nD τ).loc main_arg0)) (m ((c : Thread nD τ).loc main_arg1))) (m ((c : Thread nD τ).loc main_arg2)) := by
  unfold V hostOps0 hostOps0_1 hostOps0_2 hostOps0_3
  simp only [List.flatten_cons, List.flatten_nil, List.append_nil, List.cons_append, List.nil_append]
  entry_read
  rfl

end AnyF

open Cert.Butterfly

/-- The word a maximum starts from is −∞. -/
theorem neg_inf : Ideal.ofBits FTy.f32 4286578688#32 = ⊥ := by
  simp [Ideal.ofBits, Ideal.ieee]

/-- The sign of an entry of the matrix, from the bits its indices have in common. -/
theorem sign_words : ∀ i j : Fin 16, IntOp.cmpi .eq (IntOp.andi (IntOp.ctpop (IntOp.andi (BitVec.ofNat 32 i.val) (BitVec.ofNat 32 j.val))) 1#32) 1#32
    = if odd i j then 1#1 else 0#1 := by decide

/-- An entry of the signed matrix. -/
theorem hm_apply (x1 : Vec Ideal S16 .f32) (i j : Fin 16) : hm (F := Ideal) x1 (ix2 i j)
    = ((Ideal.ofBits FTy.f32 0x3E800000#32 : EReal) * ((sg i j : ℝ) : EReal)) * x1 (ix1 j) := by
  unfold hm
  pointwise
  rw [sign_words]
  refine congrArg (fun z : EReal => Ideal.ofBits FTy.f32 1048576000#32 * z * x1 (ix1 j)) ?_
  unfold sg
  cases odd i j
  · show (1 : EReal) = ((1 : ℝ) : EReal)
    exact EReal.coe_one.symm
  · show Ideal.ofBits FTy.f32 3212836864#32 = ((-1 : ℝ) : EReal)
    simp [Ideal.ofBits, Ideal.ieee]
    rw [← EReal.coe_mul]
    norm_num

/-- An entry of the block scales before their cast. -/
theorem scales_apply (a : Vec Ideal S4096x768 .f32) (x2 : Vec Ideal S1 .f32) (o : Fin 4096) (k : Fin 768) : scales (F := Ideal) a x2 (ix2 o k)
    = min (Ideal.ofBits FTy.f32 0x43E00000#32 : EReal) (max 0 (Ideal.div (a (ix2 o k) * Ideal.ofBits FTy.f32 0x3F800800#32) (Ideal.ofBits FTy.f32 0x40C00000#32 * x2 (ix1 0)))) := by
  unfold scales
  pointwise

/-- An entry of the transformed array is a sum of 16 products. -/
theorem zz_apply (x0 : Vec Ideal S12288x4096 .bf16) (x1 : Vec Ideal S16 .f32) (k : Fin 768) (o : Fin 4096) (i : Fin 16) :
    zz (F := Ideal) x0 x1 (ix3 k o i) = ∑ j : Fin 16, (x0 (ix2 ⟨16 * k.val + j.val, by omega⟩ o) : EReal) * hm (F := Ideal) x1 (ix2 i j) := by
  unfold zz
  generalize hm (F := Ideal) x1 = w
  pointwise
  simp only [Nat.mul_comm k.val 16]

/-- What bounds the largest absolute value of a block. -/
theorem amax_le (x0 : Vec Ideal S12288x4096 .bf16) (x1 : Vec Ideal S16 .f32) (o : Fin 4096) (k : Fin 768) (y : EReal) :
    amax (F := Ideal) x0 x1 (ix2 o k) ≤ y ↔ ∀ i : Fin 16, absE (zz (F := Ideal) x0 x1 (ix3 k o i)) ≤ y := by
  unfold amax
  generalize zz (F := Ideal) x0 x1 = w
  pointwise
  rw [neg_inf, Finset.fold_max_le]
  exact ⟨fun hh b => hh.2 b (Finset.mem_univ b), fun hh => ⟨bot_le, fun b _ => hh b⟩⟩
end Cert.XBlkRefIdeal.Hand
-- ==== Proof.XBlkValue.lean ====
/- The value of the block scales: the array the call leaves is the reference's, when the global scale is positive.
   Hand-written, untrusted. -/
module

public import proofs.«01_k».proof.Defs
public import proofs.«01_k».proof.Proof.Gen.XBlk.Frame
public import proofs.«01_k».proof.Proof.Gen.Pre_x_scale_positive
public import Idealize.ShloMosaic.Lib.Bf16Pair
public import proofs.«01_k».proof.Proof.XBlkKernel
public import proofs.«01_k».proof.Proof.XBlkRef

@[expose] public section

set_option maxRecDepth 16384

noncomputable section

open Idealize.ShloMosaic Idealize.ShloMosaic.TcCoe Idealize.SL.Sem
open scoped BigOperators

namespace Cert.XBlkIdeal.Hand

open Cert.XBlkIdeal Cert.XBlkIdeal.Gen Cert.XBlkIdeal.Value Cert.Butterfly

section AnyF
variable {F : FTy → Type} [FloatOps F]

/-- The tile of signs as the host operations before the call build it. -/
def tile (x1 : (⟨S16, .f32⟩ : BufTy).Contents (Elt F)) : Vec F S128x128 .bf16 :=
  broadcastInDim S128x128 ![0, 1] bcast_S128x1_S128x128_0_1
    (shapeCast S128x1 (broadcastInDim S8x8x2 ![0, 1, 2] bcast_S8x1x2_S8x8x2_0_1_2 (shapeCast S8x1x2 (shapeCast S8x2
      (truncf .bf16 (mulf (broadcastInDim S16 ![] bcast_S_S16 (constant S_ .f32 0x3E800000#32)) x1 : Vec F S16 .f32) bitsLt_bf16_f32) shapeCasts_S16_S8x2) shapeCasts_S8x2_S8x1x2)) shapeCasts_S8x8x2_S128x1)

/-- The tile of signs the call finds. -/
theorem V_v7 (m : (ℓ : Loc nD τ sig) → Buf (Elt F) ℓ) (c : Dev nD) : (V m c main_v7 : Vec F S128x128 .bf16) = tile (m ((c : Thread nD τ).loc main_arg1)) := by
  rfl

end AnyF

/-- The value at an even place: an even row of the pair times its sign. -/
theorem pay7_apply (v : Vec Ideal S8x2x128 .bf16) (w : Vec Ideal S16x128 .bf16) (r : Fin 8) (l : Fin 128) :
    k0_pay7 (F := Ideal) v w (ix2 r l) = (v (ix3 r 0 l) : EReal) * w (ix2 ⟨2 * r.val, by omega⟩ l) := by
  unfold_payloads
  pointwise
  rw [if_pos (by omega)]
  refine congrArg (fun z : EReal => z * w (ix2 ⟨2 * r.val, by omega⟩ l)) (congrArg (fun k : Fin 8 => (v (ix3 k 0 l) : EReal)) (Fin.ext ?_))
  show 2 * r.val / 2 = r.val
  omega

/-- The value at an odd place: an odd row of the pair times its sign. -/
theorem pay8_apply (v : Vec Ideal S8x2x128 .bf16) (w : Vec Ideal S16x128 .bf16) (r : Fin 8) (l : Fin 128) :
    k0_pay8 (F := Ideal) v w (ix2 r l) = (v (ix3 r 1 l) : EReal) * w (ix2 ⟨2 * r.val + 1, by omega⟩ l) := by
  unfold_payloads
  pointwise
  rw [if_neg (by omega)]
  refine congrArg (fun z : EReal => z * w (ix2 ⟨2 * r.val + 1, by omega⟩ l)) (congrArg (fun k : Fin 8 => (v (ix3 k 1 l) : EReal)) (Fin.ext ?_))
  show (2 * r.val + 1) / 2 = r.val
  omega

/-- The rounds of vectors, entry by entry. -/
theorem bfV_apply (Y : Fin 16 → FVec Ideal S8x128 .f32) (x : S8x128.Idx) : ∀ (n : ℕ) (i : Fin 16),
    bfV (F := Ideal) Y n i x = bf (fun j => (Y j x : EReal)) n i
  | 0, i => rfl
  | n + 1, i => by
    unfold bfV bf
    rw [← bfV_apply Y x n i, ← bfV_apply Y x n _]
    cases i.val.testBit n <;> rfl

/-- A block scale of a unit, from the largest of the 16 absolute values. -/
theorem unitS_apply (g : EReal) (z : Fin 16 → FVec Ideal S8x128 .f32) (r : Fin 8) (l : Fin 128) (A : EReal)
    (hA : ∀ y, A ≤ y ↔ ∀ i, absE (z i (ix2 r l)) ≤ y) :
    unitS (F := Ideal) g z (ix2 r l) = min (Ideal.div (A * Ideal.ofBits FTy.f32 0x3F800800#32) (Ideal.ofBits FTy.f32 0x40C00000#32 * g)) (Ideal.ofBits FTy.f32 0x43E00000#32 : EReal) := by
  unfold unitS
  unfold_payloads
  pointwise
  have e : ∀ z : EReal, FloatOps.absf (F := Ideal) (φ := .f32) z = absE z := fun _ => rfl
  simp only [e]
  refine congrArg (fun a : EReal => min (Ideal.div (a * Ideal.ofBits FTy.f32 1065355264#32) (Ideal.ofBits FTy.f32 1086324736#32 * g)) (Ideal.ofBits FTy.f32 1138753536#32)) ?_
  refine eq_of_forall_ge_iff fun y => ?_
  rw [hA]
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ i
    fin_cases i <;> assumption
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

/-- The block written out is the scratch transposed. -/
theorem pay5_apply (G : Vec Ideal S128x128 .f32) (l k : Fin 128) : k0_pay5 (F := Ideal) G (ix2 l k) = G (ix2 k l) := by
  unfold_payloads
  pointwise

/-- A signed value of a unit, entry by entry. -/
theorem Yv_apply (R : Fin 8 → Vec Ideal S8x2x128 .bf16) (T : Fin 8 → Vec Ideal S16x128 .bf16) (j : Fin 16) (r : Fin 8) (l : Fin 128) :
    Yv (F := Ideal) R T j (ix2 r l) = (R ⟨j.val / 2, by omega⟩ (ix3 r ⟨j.val % 2, by omega⟩ l) : EReal) * T ⟨j.val / 2, by omega⟩ (ix2 ⟨2 * r.val + j.val % 2, by omega⟩ l) := by
  have h : j.val.testBit 0 = decide (j.val % 2 = 1) := Nat.testBit_zero _
  unfold Yv
  rw [h]
  rcases Nat.mod_two_eq_zero_or_one j.val with h0 | h1
  · rw [decide_eq_false (by omega)]
    refine (pay7_apply _ _ r l).trans ?_
    refine congrArg₂ (fun (a b : EReal) => a * b) (congrArg (fun k : Fin 2 => (R ⟨j.val / 2, by omega⟩ (ix3 r k l) : EReal)) (Fin.ext h0.symm))
      (congrArg (fun k : Fin 16 => (T ⟨j.val / 2, by omega⟩ (ix2 k l) : EReal)) (Fin.ext ?_))
    show 2 * r.val = 2 * r.val + j.val % 2
    omega
  · rw [decide_eq_true h1]
    refine (pay8_apply _ _ r l).trans ?_
    refine congrArg₂ (fun (a b : EReal) => a * b) (congrArg (fun k : Fin 2 => (R ⟨j.val / 2, by omega⟩ (ix3 r k l) : EReal)) (Fin.ext h1.symm))
      (congrArg (fun k : Fin 16 => (T ⟨j.val / 2, by omega⟩ (ix2 k l) : EReal)) (Fin.ext ?_))
    show 2 * r.val + 1 = 2 * r.val + j.val % 2
    omega

/-- The block scale of 16 signed values. -/
def scaleOf (g : EReal) (x : Fin 16 → EReal) : EReal :=
  min (Ideal.div ((Finset.univ.sup fun i : Fin 16 => absE (bf x 4 i)) * Ideal.ofBits FTy.f32 0x3F800800#32) (Ideal.ofBits FTy.f32 0x40C00000#32 * g)) (Ideal.ofBits FTy.f32 0x43E00000#32 : EReal)

/-- An entry of the scratch: the block scale of 16 rows under their signs. -/
theorem G_apply (g : EReal) (x1 : Vec Ideal S128x128 .bf16) (x2 : Vec Ideal S2048x128 .bf16) (k l : Fin 128) :
    G (F := Ideal) g x1 x2 (ix2 k l) = scaleOf g fun j => (x2 (ix2 ⟨16 * k.val + j.val, by omega⟩ l) : EReal)
      * x1 (ix2 ⟨16 * (j.val / 2) + 2 * (k.val % 8) + j.val % 2, by omega⟩ l) := by
  have hk := k.isLt
  unfold G
  refine (unitS_apply g _ _ _ (Finset.univ.sup fun i : Fin 16 => absE (bf (fun j => (x2 (ix2 ⟨16 * k.val + j.val, by omega⟩ l) : EReal)
      * x1 (ix2 ⟨16 * (j.val / 2) + 2 * (k.val % 8) + j.val % 2, by omega⟩ l)) 4 i)) fun y => ?_)
  simp only [Finset.sup_le_iff, Finset.mem_univ, forall_true_left]
  refine forall_congr' fun i => ?_
  rw [bfV_apply]
  refine iff_of_eq (congrArg (fun f => absE (bf f 4 i) ≤ y) (funext fun j => ?_))
  refine Eq.trans ?_ (Yv_apply _ _ j _ _).symm
  unfold Rx Tx
  have hj := j.isLt
  refine congrArg₂ (fun (a b : EReal) => a * b) (congrArg (fun r : Fin 2048 => (x2 (ix2 r l) : EReal)) (Fin.ext ?_)) (congrArg (fun r : Fin 128 => (x1 (ix2 r l) : EReal)) (Fin.ext ?_))
  · show 16 * k.val + j.val = 16 * (8 * (k.val / 8) + k.val % 8) + 2 * (j.val / 2) + j.val % 2
    omega
  · show 16 * (j.val / 2) + 2 * (k.val % 8) + j.val % 2 = 16 * (j.val / 2) + (2 * (k.val % 8) + j.val % 2)
    omega

variable (m : (ℓ : Loc nD τ sig) → Buf (Elt Ideal) ℓ)

/-- An entry of the tile of signs. -/
theorem tile_apply (w : Vec Ideal S16 .f32) (j : Fin 16) (r : Fin 8) (l : Fin 128) : (tile (F := Ideal) w (ix2 ⟨16 * (j.val / 2) + 2 * r.val + j.val % 2, by omega⟩ l) : EReal)
    = (Ideal.ofBits FTy.f32 0x3E800000#32 : EReal) * w (ix1 j) := by
  unfold tile
  pointwise

/-- The printed index maps over the 192 points. -/
theorem idx_facts : ∀ t : Fin grid0.N, (win0_1.index t 0 = 0 ∧ win0_1.index t 1 = 0) ∧ (win0_2.index t 0 = t.val % 6 ∧ win0_2.index t 1 = t.val / 6)
    ∧ (win0_4.index t 0 = t.val / 6 ∧ win0_4.index t 1 = t.val % 6) := by decide +kernel

/-- The tile of signs is the same at every point. -/
theorem iblk1 (c : Dev nD) (t : Fin cfg0.N) (r l : Fin 128) :
    (iblk m c 1 t : Vec Ideal S128x128 .bf16) (ix2 r l) = (V m c main_v7 : Vec Ideal S128x128 .bf16) (ix2 r l) := by
  obtain ⟨⟨e0, e1⟩, _⟩ := idx_facts t
  unfold iblk
  rw [View.read_apply]
  show V m c main_v7 _ = V m c main_v7 _
  congr 1
  funext a
  apply Fin.ext
  match a with
  | ⟨0, _⟩ => show win0_1.index t 0 * 128 + 1 * r.val = r.val; rw [e0]; omega
  | ⟨1, _⟩ => show win0_1.index t 1 * 128 + 1 * l.val = l.val; rw [e1]; omega

/-- The block of rows at a point. -/
theorem iblk2 (c : Dev nD) (t : Fin cfg0.N) (r : Fin 2048) (l : Fin 128) (R : Fin 12288) (q : Fin 4096) (hR : R.val = 2048 * (t.val % 6) + r.val) (hq : q.val = 128 * (t.val / 6) + l.val) :
    (iblk m c 2 t : Vec Ideal S2048x128 .bf16) (ix2 r l) = (m ((c : Thread nD τ).loc main_arg0) : Vec Ideal S12288x4096 .bf16) (ix2 R q) := by
  obtain ⟨_, ⟨e0, e1⟩, _⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_2.index t 0 * 2048 + 1 * r.val = R.val; rw [e0]; omega
  | ⟨1, _⟩ => show win0_2.index t 1 * 128 + 1 * l.val = q.val; rw [e1]; omega

/-- The scalar every point reads is the one entry of the last argument. -/
theorem gl_eq (c : Dev nD) (t : Fin cfg0.N) : gl (F := Ideal) (ms0_0 t) (hs0_0 t) (iblk m c 0 t) = (m ((c : Thread nD τ).loc main_arg2) : Vec Ideal S1 .f32) (ix1 0) := by
  unfold gl
  rw [(hs0_0 t).readAt_unread]
  unfold iblk
  show V m c main_arg2 _ = m ((c : Thread nD τ).loc main_arg2) _
  rw [V_main_arg2]
  congr 1
  funext a
  apply Fin.ext
  match a with
  | ⟨0, _⟩ => rfl

/-- The array of block scales the call leaves. -/
def target (x0 : S12288x4096.Idx → EReal) (x1 : S16.Idx → EReal) (x2 : S1.Idx → EReal) : S4096x768.Idx → EReal := fun y =>
  scaleOf (x2 (ix1 0)) fun j => x0 (ix2 ⟨16 * (y 1).val + j.val, by
      have h1 : (y 1).val < 768 := (y 1).isLt
      omega⟩ (y 0)) * ((Ideal.ofBits FTy.f32 0x3E800000#32 : EReal) * x1 (ix1 j))

/-- The result array. -/
theorem final_eq (c : Dev nD) : (dats m 0 c).arrAt 4 cfg0.N = target (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 192 := lt_of_lt_of_eq t.isLt N_0
  obtain ⟨_, _, e0, e1⟩ := idx_facts t
  rw [after0_4]
  unfold outsAt0
  dsimp only
  rw [out_4]
  refine (cast_eq _ _).trans ?_
  have hy0 : (y 0).val < 128 := (y 0).isLt
  have hy1 : (y 1).val < 128 := (y 1).isLt
  have hx : (cfg0.win 4).xinj (cfg0.grid.coords t) y = (ix2 ⟨(y 0).val, hy0⟩ ⟨(y 1).val, hy1⟩ : S128x128.Idx) := by
    funext a
    apply Fin.ext
    match a with
    | ⟨0, _⟩ => rfl
    | ⟨1, _⟩ => rfl
  have he0 : (((cfg0.win 4).blk t).view.emb y 0).val = 128 * (t.val / 6) + (y 0).val := by
    show win0_4.index t 0 * 128 + 1 * (y 0).val = _
    rw [e0]; omega
  have he1 : (((cfg0.win 4).blk t).view.emb y 1).val = 128 * (t.val % 6) + (y 1).val := by
    show win0_4.index t 1 * 128 + 1 * (y 1).val = _
    rw [e1]; omega
  refine (congrArg _ hx).trans ?_
  refine (pay5_apply _ _ _).trans ?_
  refine (G_apply _ _ _ _ _).trans ?_
  unfold target
  rw [gl_eq]
  refine congrArg _ (funext fun j => ?_)
  refine congrArg₂ (fun (a b : EReal) => a * b) (iblk2 m c t _ _ _ _ ?_ ?_) ((iblk1 m c t _ _).trans ((congrFun (V_v7 m c) _).trans (tile_apply _ j ⟨(y 1).val % 8, by omega⟩ _)))
  · show 16 * (((cfg0.win 4).blk t).view.emb y 1).val + j.val = 2048 * (t.val % 6) + (16 * (y 1).val + j.val)
    rw [he1]; omega
  · exact he0

end Cert.XBlkIdeal.Hand

namespace Cert.XBlkRefIdeal.Hand

open Cert.XBlkRefIdeal Cert.XBlkRefIdeal.Gen Cert.XBlkRefIdeal.Value

variable (m : (ℓ : Loc nD τ sig) → Buf (Elt Ideal) ℓ)

/-- The printed index maps of the one point. -/
theorem idx_facts : ∀ t : Fin grid0.N, (win0_0.index t 0 = 0 ∧ win0_0.index t 1 = 0) ∧ (win0_1.index t 0 = 0 ∧ win0_1.index t 1 = 0) := by decide +kernel

/-- The array the reference's last call leaves is the one it finds. -/
theorem final_eq (c : Dev nD) : (dats m 0 c).arrAt 1 cfg0.N
    = scales (F := Ideal) (amax (m ((c : Thread nD τ).loc main_arg0)) (m ((c : Thread nD τ).loc main_arg1))) (m ((c : Thread nD τ).loc main_arg2)) := by
  refine (dats m 0 c).arrAt_eq_of_covers 1 _ (by decide +kernel) fun t hf y => ?_
  obtain ⟨⟨e0, e1⟩, e2, e3⟩ := idx_facts t
  rw [after0_1]
  unfold out0_1
  refine (cast_eq _ _).trans ?_
  refine (canon1_eq (F := Ideal) _ _).trans ?_
  rw [← V_v30]
  unfold iblk
  show V m c main_v30 _ = V m c main_v30 _
  congr 1
  funext a
  apply Fin.ext
  match a with
  | ⟨0, _⟩ => show win0_0.index t 0 * 4096 + 1 * (0 + 1 * (y 0).val) = win0_1.index t 0 * 4096 + 1 * (y 0).val; rw [e0, e2]; omega
  | ⟨1, _⟩ => show win0_0.index t 1 * 768 + 1 * (0 + 1 * (y 1).val) = win0_1.index t 1 * 768 + 1 * (y 1).val; rw [e1, e3]; omega

end Cert.XBlkRefIdeal.Hand

namespace Cert.XBlkClaims

open Cert.Butterfly

/-- The word of the factor before the division is not negative. -/
theorem nudge_nonneg : (0 : EReal) ≤ Ideal.ofBits FTy.f32 0x3F800800#32 := by
  simp [Ideal.ofBits, Ideal.ieee]
  rw [← EReal.coe_mul]
  exact EReal.coe_nonneg.mpr (by norm_num)

/-- The word 6 is positive. -/
theorem six_pos : (0 : EReal) < Ideal.ofBits FTy.f32 0x40C00000#32 := by
  simp [Ideal.ofBits, Ideal.ieee]
  rw [← EReal.coe_mul]
  exact EReal.coe_pos.mpr (by norm_num)

/-- The word 448 is not negative. -/
theorem top_nonneg : (0 : EReal) ≤ Ideal.ofBits FTy.f32 0x43E00000#32 := by
  simp [Ideal.ofBits, Ideal.ieee]
  rw [← EReal.coe_mul]
  exact EReal.coe_nonneg.mpr (by norm_num)

/-- An absolute value is not negative. -/
theorem absE_nonneg (z : EReal) : 0 ≤ absE z := by
  rcases le_total 0 z with h | h
  · exact le_trans h (le_max_left _ _)
  · exact le_trans (EReal.neg_nonneg.mpr h) (le_max_right _ _)

/-- For a positive scale the reference's array is the call's. -/
theorem ref_eq (x0 : Vec Ideal Cert.XBlkRefIdeal.S12288x4096 .bf16) (x1 : Vec Ideal Cert.XBlkRefIdeal.S16 .f32) (x2 : Vec Ideal Cert.XBlkRefIdeal.S1 .f32)
    (hg : (0 : EReal) < x2 (ix1 0)) (y : Cert.XBlkRefIdeal.S4096x768.Idx) :
    Cert.XBlkRefIdeal.Hand.scales (F := Ideal) (Cert.XBlkRefIdeal.Hand.amax x0 x1) x2 y = Cert.XBlkIdeal.Hand.target x0 x1 x2 y := by
  obtain ⟨o, k, rfl⟩ : ∃ (o : Fin 4096) (k : Fin 768), y = ix2 o k := ⟨y 0, y 1, by
    funext a
    match a with
    | ⟨0, _⟩ => rfl
    | ⟨1, _⟩ => rfl⟩
  rw [Cert.XBlkRefIdeal.Hand.scales_apply]
  unfold Cert.XBlkIdeal.Hand.target Cert.XBlkIdeal.Hand.scaleOf
  have hz : ∀ i : Fin 16, absE (Cert.XBlkRefIdeal.Hand.zz (F := Ideal) x0 x1 (ix3 k o i))
      = absE (bf (fun j : Fin 16 => (x0 (ix2 ⟨16 * k.val + j.val, by omega⟩ o) : EReal) * ((Ideal.ofBits FTy.f32 0x3E800000#32 : EReal) * x1 (ix1 j))) 4 i) := fun i => by
    rw [abs_bf, Cert.XBlkRefIdeal.Hand.zz_apply]
    refine congrArg absE (Finset.sum_congr rfl fun j _ => ?_)
    rw [Cert.XBlkRefIdeal.Hand.hm_apply]
    generalize (x0 (ix2 ⟨16 * k.val + j.val, _⟩ o) : EReal) = a
    generalize (x1 (ix1 j) : EReal) = b
    generalize ((sg i j : ℝ) : EReal) = s
    generalize (Ideal.ofBits FTy.f32 0x3E800000#32 : EReal) = q
    rw [mul_left_comm s a, mul_comm q s, mul_assoc s q b]
  have hA : (Cert.XBlkRefIdeal.Hand.amax (F := Ideal) x0 x1 (ix2 o k) : EReal)
      = Finset.univ.sup fun i : Fin 16 => absE (bf (fun j : Fin 16 => (x0 (ix2 ⟨16 * k.val + j.val, by omega⟩ o) : EReal) * ((Ideal.ofBits FTy.f32 0x3E800000#32 : EReal) * x1 (ix1 j))) 4 i) := by
    refine eq_of_forall_ge_iff fun z => ?_
    rw [Cert.XBlkRefIdeal.Hand.amax_le]
    simp only [Finset.sup_le_iff, Finset.mem_univ, forall_true_left]
    exact forall_congr' fun i => by rw [hz i]
  have h0 : (0 : EReal) ≤ Cert.XBlkRefIdeal.Hand.amax (F := Ideal) x0 x1 (ix2 o k) :=
    le_trans (absE_nonneg _) ((Cert.XBlkRefIdeal.Hand.amax_le x0 x1 o k _).mp le_rfl 0)
  refine Eq.trans ?_ (congrArg (fun a : EReal => min (Ideal.div (a * Ideal.ofBits FTy.f32 0x3F800800#32) (Ideal.ofBits FTy.f32 0x40C00000#32 * x2 (ix1 0))) (Ideal.ofBits FTy.f32 0x43E00000#32 : EReal)) hA)
  rw [min_comm, max_eq_right]
  have hd : (0 : EReal) < Ideal.ofBits FTy.f32 0x40C00000#32 * x2 (ix1 0) := EReal.mul_pos six_pos hg
  unfold Ideal.div
  rw [if_neg hd.ne']
  exact mul_nonneg (mul_nonneg h0 nudge_nonneg) (EReal.inv_nonneg_of_nonneg hd.le)

/-- What the stated condition says of the scale. -/
theorem pos_of_pre (x0 : Vec Ideal Cert.XBlkRefIdeal.S12288x4096 .bf16) (x1 : Vec Ideal Cert.XBlkRefIdeal.S16 .f32) (x2 : Vec Ideal Cert.XBlkRefIdeal.S1 .f32)
    (h : Cert.Pre_x_scale_positive.fn (F := Ideal) x0 x1 x2 = fun _ => 1#1) : (0 : EReal) < x2 (ix1 0) := by
  have h1 := congrFun h (ix1 0)
  revert h1
  unfold Cert.Pre_x_scale_positive.fn
  pointwise
  intro h1
  by_contra hn
  rw [decide_eq_false hn] at h1
  exact absurd h1 (by decide)

/-- The call on the operand leaves the reference's block scales, over the extended reals, when the global scale is positive. -/
theorem algebraic : Cert.algebraic_XBlkIdeal_XBlkRefIdeal_pre_x_scale_positive := by
  intro m ρ m' ρ' hpre hagree
  refine ⟨fun c => (Cert.XBlkIdeal.Gen.dats m 0 c).arrAt 4 Cert.XBlkIdeal.cfg0.N,
    (θ_run Cert.XBlkIdeal.defs _ _).mono (fun r h c => ⟨(h c).2.1, (h c).2.2.2⟩) (Cert.XBlkIdeal.Value.run_blocks (F := Ideal) m ρ), ?_⟩
  refine (θ_run Cert.XBlkRefIdeal.defs _ _).mono (fun r h c => ?_) (Cert.XBlkRefIdeal.Value.run_blocks (F := Ideal) m' ρ')
  obtain ⟨h0, h1, h2⟩ := hagree c
  refine ⟨(h c).1.trans ?_, (h c).2⟩
  beta_reduce
  rw [Cert.XBlkRefIdeal.Hand.final_eq, Cert.XBlkIdeal.Hand.final_eq, h0, h1, h2]
  exact funext fun y => ref_eq _ _ _ (pos_of_pre _ _ _ (hpre c)) y

/-- The kernel as written runs to the end with its arguments unchanged and every semaphore back at zero. -/
theorem frame : Cert.quiescent_XBlk := fun m ρ _ => Cert.XBlk.Gen.frame m ρ

/-- So does the kernel over the extended reals. -/
theorem frameI : Cert.quiescent_XBlkIdeal := fun m ρ _ => Cert.XBlkIdeal.Gen.frame m ρ

/-- So does it under the stated condition. -/
theorem frameI_pre : Cert.quiescent_XBlkIdeal_pre_x_scale_positive := fun m ρ _ => Cert.XBlkIdeal.Gen.frame m ρ

/-- So does the reference over them. -/
theorem frameR : Cert.quiescent_XBlkRefIdeal := fun m ρ _ => Cert.XBlkRefIdeal.Gen.frame m ρ

/-- So does the reference under the stated condition. -/
theorem frameR_pre : Cert.quiescent_XBlkRefIdeal_pre_x_scale_positive := fun m ρ _ => Cert.XBlkRefIdeal.Gen.frame m ρ

/-- Each rewrite of the bits of a pair of bf16 numbers computes what was there. -/
theorem preserves : Cert.preserves_XBlk_XBlkIdeal := ⟨IdealRules.bf16_pair.statement _ _, IdealRules.bf16_pair.statement _ _⟩

end Cert.XBlkClaims
-- ==== Proof.DyBlkKernel.lean ====
/- The block scales a point of the quantising call leaves, read off its stores: sixteen pieces, one per unit of eight
   blocks, are one function of the operands. Hand-written, untrusted. -/
module

public import proofs.«01_k».proof.Defs
public import proofs.«01_k».proof.Proof.Gen.DyBlkIdeal.Value
public import proofs.«01_k».proof.Proof.Butterfly
public import Idealize.ShloMosaic.Lib.Pointwise
public import Idealize.ShloMosaic.Lib.WholeRead
public import Idealize.ShloMosaic.Lib.Pipeline.ReadBack
public import Idealize.ShloMosaic.Lib.Pipeline.Value
public import Idealize.ShloMosaic.Lib.Pipeline.ValueKit
public import Idealize.ShloMosaic.Lib.Tactic
public import Idealize.ShloMosaic.Lib.Quiescent
public import Idealize.ShloMosaic.PureOps.Ideal.Laws

@[expose] public section

set_option maxRecDepth 16384

noncomputable section

open Idealize.ShloMosaic Idealize.ShloMosaic.TcCoe Idealize.SL.Sem
open scoped BigOperators

namespace Cert.DyBlkIdeal.Hand

open Cert.DyBlkIdeal Cert.DyBlkIdeal.Gen Cert.DyBlkIdeal.Value

section AnyF
variable {F : FTy → Type} [FloatOps F]

/-- The offset of a whole two-axis block. -/
theorem hz : (![0, 0] : Fin 2 → Nat) = fun _ => 0 := funext fun a => by fin_cases a <;> rfl

/-- The 16 signed values of a unit's block: the value at an even place from the even rows, at an odd place from the odd rows. -/
def Yv (R : Fin 8 → Vec F S8x2x128 .bf16) (T : Fin 8 → Vec F S16x128 .bf16) (j : Fin 16) : FVec F S8x128 .f32 :=
  bif j.val.testBit 0 then k0_pay8 (R ⟨j.val / 2, by omega⟩) (T ⟨j.val / 2, by omega⟩) else k0_pay7 (R ⟨j.val / 2, by omega⟩) (T ⟨j.val / 2, by omega⟩)

/-- Rounds of sums and differences of vectors. -/
def bfV (y : Fin 16 → FVec F S8x128 .f32) : ℕ → Fin 16 → FVec F S8x128 .f32
  | 0, i => y i
  | n + 1, i => bif i.val.testBit n then subf (bfV y n (Butterfly.flip n i)) (bfV y n i) else addf (bfV y n i) (bfV y n (Butterfly.flip n i))

/-- The block scales of one unit, from the absolute values of its 16 transformed vectors. -/
def unitS (g : Elt F .f32) (z : Fin 16 → FVec F S8x128 .f32) : FVec F S8x128 .f32 :=
  k0_pay109 g (absf (z 5)) (absf (z 6)) (absf (z 7)) (absf (z 8)) (absf (z 9)) (absf (z 10)) (absf (z 11)) (absf (z 12)) (absf (z 13)) (absf (z 14)) (absf (z 15))
    (maximumf (maximumf (maximumf (maximumf (absf (z 0)) (absf (z 1))) (absf (z 2))) (absf (z 3))) (absf (z 4)))

/-- A unit's rows lie inside the block of rows. -/
theorem rl_inb (n : ℕ) (hn : n + 56 < 1024) : ∀ a, S8x2x128.size a = 0 ∨ (![n, 0, 0] : Fin 3 → ℕ) a + (![8, 1, 1] : Fin 3 → ℕ) a * (S8x2x128.size a - 1) < S1024x2x128.size a := by
  intro a
  right
  match a with
  | ⟨0, _⟩ => show n + 8 * 7 < 1024; omega
  | ⟨1, _⟩ => show 0 + 1 * 1 < 2; omega
  | ⟨2, _⟩ => show 0 + 1 * 127 < 128; omega

/-- The rows of one unit, as loaded. -/
def Rl (arg4 : Memref sig .tc .vmem S2048x128 .bf16) (harg4 : arg4.IsWhole) (x2 : Vec F S2048x128 .bf16) (u : Fin 16) (s : Fin 8) : Vec F S8x2x128 .bf16 :=
  View.readAt (Elt F) (arg4.reshape S1024x2x128 reshapes_S2048x128_S1024x2x128.1 reshapes_S2048x128_S1024x2x128.2 harg4.contiguous).view
    (⟨![64 * u.val + s.val, 0, 0], S8x2x128.size, ![8, 1, 1], rl_inb _ (by omega)⟩ : LoadRect S1024x2x128) (harg4.unread x2)

/-- A step's signs lie inside the tile of signs. -/
theorem tl_inb (n : ℕ) (hn : n + 16 ≤ 128) : ∀ a, (![n, 0] : Fin 2 → ℕ) a + S16x128.size a ≤ S128x128.size a := by
  intro a
  match a with
  | ⟨0, _⟩ => show n + 16 ≤ 128; omega
  | ⟨1, _⟩ => show 0 + 128 ≤ 128; omega

/-- The signs, as loaded. -/
def Tl (arg3 : Memref sig .tc .vmem S128x128 .bf16) (harg3 : arg3.IsWhole) (x1 : Vec F S128x128 .bf16) (s : Fin 8) : Vec F S16x128 .bf16 :=
  View.readAt (Elt F) arg3.view (Rect.unit (s := S128x128) ![16 * s.val, 0] S16x128.size (tl_inb _ (by omega))).toLoadRect (harg3.unread x1)

/-- The rows of one unit. -/
def Rx (x2 : Vec F S2048x128 .bf16) (u : Fin 16) (s : Fin 8) : Vec F S8x2x128 .bf16 :=
  fun x => x2 (ix2 ⟨16 * (8 * u.val + (x 0).val) + 2 * s.val + (x 1).val, by
    have h0 : (x 0).val < 8 := (x 0).isLt
    have h1 : (x 1).val < 2 := (x 1).isLt
    omega⟩ (x 2))

/-- The signs of one unit. -/
def Tx (x1 : Vec F S128x128 .bf16) (s : Fin 8) : Vec F S16x128 .bf16 :=
  fun x => x1 (ix2 ⟨16 * s.val + (x 0).val, by
    have h0 : (x 0).val < 16 := (x 0).isLt
    omega⟩ (x 1))

/-- The rows loaded are the rows of the unit. -/
theorem Rl_eq (arg4 : Memref sig .tc .vmem S2048x128 .bf16) (harg4 : arg4.IsWhole) (x2 : Vec F S2048x128 .bf16) : Rl arg4 harg4 x2 = Rx x2 := by
  funext u s x
  have h0 : (x 0).val < 8 := (x 0).isLt
  have h1 : (x 1).val < 2 := (x 1).isLt
  have h2 : (x 2).val < 128 := (x 2).isLt
  have hu := u.isLt
  have hs := s.isLt
  unfold Rl Rx
  refine Eq.trans (show _ = shapeCast S1024x2x128 x2 reshapes_S2048x128_S1024x2x128.1 _ from congrFun (harg4.read_unread x2) _) (shapeCast_apply _ _ _ _ ?_)
  rw [Shape.rowMajor_val_three, Shape.rowMajor_val_two]
  show (16 * (8 * u.val + (x 0).val) + 2 * s.val + (x 1).val) * 128 + (x 2).val
    = ((64 * u.val + s.val + 8 * (x 0).val) * 2 + (0 + 1 * (x 1).val)) * 128 + (0 + 1 * (x 2).val)
  omega

/-- The signs loaded are the signs of the step. -/
theorem Tl_eq (arg3 : Memref sig .tc .vmem S128x128 .bf16) (harg3 : arg3.IsWhole) (x1 : Vec F S128x128 .bf16) : Tl arg3 harg3 x1 = Tx x1 := by
  funext s x
  unfold Tl Tx
  rw [harg3.readAt_unread]
  refine congrArg x1 (funext fun a => Fin.ext ?_)
  match a with
  | ⟨0, _⟩ => show 16 * s.val + 1 * (x 0).val = 16 * s.val + (x 0).val; omega
  | ⟨1, _⟩ => show 0 + 1 * (x 1).val = (x 1).val; omega

/-- The block scales the scratch holds before they are written out: row `8·u + r` is row `r` of unit `u`. -/
def G (g : Elt F .f32) (x1 : Vec F S128x128 .bf16) (x2 : Vec F S2048x128 .bf16) : Vec F S128x128 .f32 :=
  fun y => unitS g (bfV (Yv (Rx x2 ⟨(y 0).val / 8, by
    have h0 : (y 0).val < 128 := (y 0).isLt
    omega⟩) (Tx x1)) 4) (ix2 ⟨(y 0).val % 8, Nat.mod_lt _ (by decide)⟩ (y 1))

/-- A stored piece that holds the block scales of unit `u` agrees with `G` where it lies. -/
theorem piece (g : Elt F .f32) (arg3 : Memref sig .tc .vmem S128x128 .bf16) (harg3 : arg3.IsWhole) (x1 : Vec F S128x128 .bf16)
   (arg4 : Memref sig .tc .vmem S2048x128 .bf16) (harg4 : arg4.IsWhole) (x2 : Vec F S2048x128 .bf16) (u : Fin 16) (P : FVec F S8x128 .f32)
   (hP : P = unitS g (bfV (Yv (Rl arg4 harg4 x2 u) (Tl arg3 harg3 x1)) 4)) (n : ℕ) (hn : 8 * u.val = n) (inb : ∀ a, (![n, 0] : Fin 2 → ℕ) a + S8x128.size a ≤ S128x128.size a) :
   ∀ x : (Rect.unit (s := S128x128) ![n, 0] S8x128.size inb).shape.Idx, P x = G g x1 x2 ((Rect.unit (s := S128x128) ![n, 0] S8x128.size inb).emb x) := by
  intro x
  subst hn
  have h0 : (x 0).val < 8 := (x 0).isLt
  rw [hP, Rl_eq, Tl_eq]
  unfold G
  have e1 : (8 * u.val + 1 * (x 0).val) / 8 = u.val := by omega
  have e2 : (8 * u.val + 1 * (x 0).val) % 8 = (x 0).val := by omega
  refine congr (congrArg (fun v => unitS g (bfV (Yv (Rx x2 v) (Tx x1)) 4)) (Fin.ext e1.symm)) (funext fun a => Fin.ext ?_)
  match a with
  | ⟨0, _⟩ => exact e2.symm
  | ⟨1, _⟩ => show (x 1).val = 0 + 1 * (x 1).val; omega

/-- A list of pieces agrees with `G` when its first piece holds a unit's block scales and the rest of it agrees. -/
theorem pieces (g : Elt F .f32) (arg3 : Memref sig .tc .vmem S128x128 .bf16) (harg3 : arg3.IsWhole) (x1 : Vec F S128x128 .bf16)
   (arg4 : Memref sig .tc .vmem S2048x128 .bf16) (harg4 : arg4.IsWhole) (x2 : Vec F S2048x128 .bf16) (u : Fin 16) (n : ℕ) (hn : 8 * u.val = n)
   (inb : ∀ a, (![n, 0] : Fin 2 → ℕ) a + S8x128.size a ≤ S128x128.size a) (P : FVec F S8x128 .f32) (L : List (View.Piece (Elt F) S128x128 .f32))
   (hP : P = unitS g (bfV (Yv (Rl arg4 harg4 x2 u) (Tl arg3 harg3 x1)) 4)) (hL : View.PiecesOf (G g x1 x2) L) :
   View.PiecesOf (G g x1 x2) ((⟨Rect.unit (s := S128x128) ![n, 0] S8x128.size inb, P⟩ : View.Piece (Elt F) S128x128 .f32) :: L) :=
  ⟨piece g arg3 harg3 x1 arg4 harg4 x2 u P hP n hn inb, hL⟩

/-- The scalar the call reads. -/
def gl (arg2 : Memref sig .tc .smem S1 .f32) (harg2 : arg2.IsWhole) (x0 : Vec F S1 .f32) : Elt F .f32 :=
  View.readAt (Elt F) arg2.view (Rect.unit (s := S1) ![0] S1.size inb_S1_S1_0).toLoadRect (harg2.unread x0) (Shape.Idx.first (by decide))

set_option maxHeartbeats 4000000 in
/-- What a point leaves in its block of scales: `G` transposed and cast, one piece per unit. -/
theorem out_5 (c : Dev nD) (i : grid0.Coords) (arg2 : Memref sig .tc .smem S1 .f32) (harg2 : arg2.IsWhole) (arg3 : Memref sig .tc .vmem S128x128 .bf16) (harg3 : arg3.IsWhole) (arg4 : Memref sig .tc .vmem S2048x128 .bf16) (harg4 : arg4.IsWhole) (arg5 : Memref sig .tc .vmem S2048x128 .i32) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S2048x128 .bf16) (harg8 : arg8.IsWhole) (arg9 : Memref sig .tc .vmem S256x128 .i32) (harg9 : arg9.IsWhole) (arg10 : Memref sig .tc .vmem S128x128 .f32) (harg10 : arg10.IsWhole)
    (x0 : Vec F S1 .f32) (x1 : Vec F S128x128 .bf16) (x2 : Vec F S2048x128 .bf16) (x3 : Vec F S2048x128 .i32) :
    out0_A_5 c i arg2 harg2 arg3 harg3 arg4 harg4 arg5 harg5 arg6 harg6 arg7 harg7 arg8 harg8 arg9 harg9 arg10 harg10 x0 x1 x2 x3 = k0_pay5 (G (gl arg2 harg2 x0) x1 x2) := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3)]
  unfold kernelRun0_A
  dsimp only
  sl_unfold_words
  rw [View.canon_unit_zero hz, View.readCov_eq_canon']
  refine congrArg k0_pay5 (funext fun (y : S128x128.Idx) => ?_)
  have hy : ((Rect.unit (s := S128x128) ![0, 0] S128x128.size inb_S128x128_S128x128_0_0).toLoadRect.idx y) = y := by
    funext a
    apply Fin.ext
    match a with
    | ⟨0, _⟩ => show 0 + 1 * (y 0).val = (y 0).val; omega
    | ⟨1, _⟩ => show 0 + 1 * (y 1).val = (y 1).val; omega
  refine (congrArg _ hy).trans ?_
  refine View.canon_apply_of_pieces _ _ (View.PiecesOf.mem ?_) y (View.cover_of_tiledL (s := S128x128) _ S8x128.size (by sl_kernel_rfl) y)
  refine pieces (gl arg2 harg2 x0) arg3 harg3 x1 arg4 harg4 x2 3 24 rfl inb_S128x128_S8x128_24_0 _ _ ?_ ?_
  · sl_kernel_rfl
  refine pieces (gl arg2 harg2 x0) arg3 harg3 x1 arg4 harg4 x2 7 56 rfl inb_S128x128_S8x128_56_0 _ _ ?_ ?_
  · sl_kernel_rfl
  refine pieces (gl arg2 harg2 x0) arg3 harg3 x1 arg4 harg4 x2 11 88 rfl inb_S128x128_S8x128_88_0 _ _ ?_ ?_
  · sl_kernel_rfl
  refine pieces (gl arg2 harg2 x0) arg3 harg3 x1 arg4 harg4 x2 15 120 rfl inb_S128x128_S8x128_120_0 _ _ ?_ ?_
  · sl_kernel_rfl
  refine pieces (gl arg2 harg2 x0) arg3 harg3 x1 arg4 harg4 x2 2 16 rfl inb_S128x128_S8x128_16_0 _ _ ?_ ?_
  · sl_kernel_rfl
  refine pieces (gl arg2 harg2 x0) arg3 harg3 x1 arg4 harg4 x2 6 48 rfl inb_S128x128_S8x128_48_0 _ _ ?_ ?_
  · sl_kernel_rfl
  refine pieces (gl arg2 harg2 x0) arg3 harg3 x1 arg4 harg4 x2 10 80 rfl inb_S128x128_S8x128_80_0 _ _ ?_ ?_
  · sl_kernel_rfl
  refine pieces (gl arg2 harg2 x0) arg3 harg3 x1 arg4 harg4 x2 14 112 rfl inb_S128x128_S8x128_112_0 _ _ ?_ ?_
  · sl_kernel_rfl
  refine pieces (gl arg2 harg2 x0) arg3 harg3 x1 arg4 harg4 x2 1 8 rfl inb_S128x128_S8x128_8_0 _ _ ?_ ?_
  · sl_kernel_rfl
  refine pieces (gl arg2 harg2 x0) arg3 harg3 x1 arg4 harg4 x2 5 40 rfl inb_S128x128_S8x128_40_0 _ _ ?_ ?_
  · sl_kernel_rfl
  refine pieces (gl arg2 harg2 x0) arg3 harg3 x1 arg4 harg4 x2 9 72 rfl inb_S128x128_S8x128_72_0 _ _ ?_ ?_
  · sl_kernel_rfl
  refine pieces (gl arg2 harg2 x0) arg3 harg3 x1 arg4 harg4 x2 13 104 rfl inb_S128x128_S8x128_104_0 _ _ ?_ ?_
  · sl_kernel_rfl
  refine pieces (gl arg2 harg2 x0) arg3 harg3 x1 arg4 harg4 x2 0 0 rfl inb_S128x128_S8x128_0_0 _ _ ?_ ?_
  · sl_kernel_rfl
  refine pieces (gl arg2 harg2 x0) arg3 harg3 x1 arg4 harg4 x2 4 32 rfl inb_S128x128_S8x128_32_0 _ _ ?_ ?_
  · sl_kernel_rfl
  refine pieces (gl arg2 harg2 x0) arg3 harg3 x1 arg4 harg4 x2 8 64 rfl inb_S128x128_S8x128_64_0 _ _ ?_ ?_
  · sl_kernel_rfl
  refine pieces (gl arg2 harg2 x0) arg3 harg3 x1 arg4 harg4 x2 12 96 rfl inb_S128x128_S8x128_96_0 _ _ ?_ ?_
  · sl_kernel_rfl
  trivial
end AnyF

end Cert.DyBlkIdeal.Hand
-- ==== Proof.DyBlkRef.lean ====
/- The reference of the block scales, entry by entry over the extended reals. Hand-written, untrusted. -/
module

public import proofs.«01_k».proof.Defs
public import proofs.«01_k».proof.Proof.Gen.DyBlkRefIdeal.Value
public import proofs.«01_k».proof.Proof.Butterfly
public import Idealize.ShloMosaic.Lib.Pointwise
public import Idealize.ShloMosaic.Lib.Pipeline.Value
public import Idealize.ShloMosaic.Lib.Pipeline.ValueKit
public import Idealize.ShloMosaic.Lib.Tactic
public import Idealize.ShloMosaic.Lib.Quiescent
public import Idealize.ShloMosaic.PureOps.Ideal.Laws

@[expose] public section

set_option maxRecDepth 16384

noncomputable section

open Idealize.ShloMosaic Idealize.ShloMosaic.TcCoe Idealize.SL.Sem
open scoped BigOperators

namespace Cert.DyBlkRefIdeal.Hand

open Cert.DyBlkRefIdeal Cert.DyBlkRefIdeal.Gen Cert.DyBlkRefIdeal.Value

section AnyF
variable {F : FTy → Type} [FloatOps F]
variable (m : (ℓ : Loc nD τ sig) → Buf (Elt F) ℓ)

/-- The signed matrix as the host operations build it. -/
def hm (x1 : (⟨S16, .f32⟩ : BufTy).Contents (Elt F)) : Vec F S16x16 .f32 :=
  mulf (mulf (broadcastInDim S16x16 ![] bcast_S_S16x16 (constant S_ .f32 0x3E800000#32))
     (select (cmpi .eq (andi (ctpop (andi (broadcastInDim S16x16 ![0, 1] bcast_S16x1_S16x16_0_1 (broadcastInDim S16x1 ![0] bcast_S16_S16x1_0 (iotaInDim S16 32 0)))
        (broadcastInDim S16x16 ![0, 1] bcast_S1x16_S16x16_0_1 (broadcastInDim S1x16 ![1] bcast_S16_S1x16_1 (iotaInDim S16 32 0)))))
        (broadcastInDim S16x16 ![] bcast_S_S16x16 (constantI S_ 32 1#32))) (broadcastInDim S16x16 ![] bcast_S_S16x16 (constantI S_ 32 1#32)))
        (broadcastInDim S16x16 ![] bcast_S_S16x16 (constant S_ .f32 0xBF800000#32)) (broadcastInDim S16x16 ![] bcast_S_S16x16 (constant S_ .f32 0x3F800000#32))))
    (broadcastInDim S16x16 ![0, 1] bcast_S1x16_S16x16_0_1 (broadcastInDim S1x16 ![1] bcast_S16_S1x16_1 x1))

/-- The transformed array, group by group. -/
def zz (x0 : (⟨S12288x14336, .bf16⟩ : BufTy).Contents (Elt F)) (x1 : (⟨S16, .f32⟩ : BufTy).Contents (Elt F)) : Vec F S768x14336x16 .f32 :=
  Host.dotGeneral dot_S768x16x14336_S16x16_S768x14336x16_1_1_02_0_n_n (some .fp32)
    (shapeCast S768x16x14336 (extf .f32 (x0 : Vec F S12288x14336 .bf16) bitsLt_bf16_f32 : Vec F S12288x14336 .f32) shapeCasts_S12288x14336_S768x16x14336) (hm x1)

/-- The largest absolute value of each block. -/
def amax (x0 : (⟨S12288x14336, .bf16⟩ : BufTy).Contents (Elt F)) (x1 : (⟨S16, .f32⟩ : BufTy).Contents (Elt F)) : Vec F S14336x768 .f32 :=
  Host.reduce FloatOps.maximumf (Host.absf (transpose S14336x768x16 [1, 0, 2] (zz x0 x1) transposes_S768x14336x16_S14336x768x16_1_0_2)) (constant S_ .f32 0xFF800000#32) reducesTo_S14336x768x16_S14336x768_d2 h_S_

/-- The block scales before their cast. -/
def scales (a : Vec F S14336x768 .f32) (x2 : (⟨S1, .f32⟩ : BufTy).Contents (Elt F)) : Vec F S14336x768 .f32 :=
  minimumf (broadcastInDim S14336x768 ![] bcast_S_S14336x768 (constant S_ .f32 0x43E00000#32))
    (maximumf (broadcastInDim S14336x768 ![] bcast_S_S14336x768 (constant S_ .f32 0x00000000#32))
      (Host.divf (mulf a (broadcastInDim S14336x768 ![] bcast_S_S14336x768 (constant S_ .f32 0x3F800800#32)))
        (broadcastInDim S14336x768 ![] bcast_S_S14336x768 (mulf (constant S_ .f32 0x40C00000#32) (shapeCast S_ (x2 : Vec F S1 .f32) shapeCasts_S1_S_)))))

set_option maxRecDepth 200000 in
/-- The entries the last call finds. -/
theorem V_v30 (c : Dev nD) : (V m c main_v30 : Vec F S14336x768 .f32)
    = scales (amax (m ((c : Thread nD τ).loc main_arg0)) (m ((c : Thread nD τ).loc main_arg1))) (m ((c : Thread nD τ).loc main_arg2)) := by
  unfold V hostOps0 hostOps0_1 hostOps0_2 hostOps0_3
  simp only [List.flatten_cons, List.flatten_nil, List.append_nil, List.cons_append, List.nil_append]
  entry_read
  rfl

end AnyF

open Cert.Butterfly

/-- The word a maximum starts from is −∞. -/
theorem neg_inf : Ideal.ofBits FTy.f32 4286578688#32 = ⊥ := by
  simp [Ideal.ofBits, Ideal.ieee]

/-- The sign of an entry of the matrix, from the bits its indices have in common. -/
theorem sign_words : ∀ i j : Fin 16, IntOp.cmpi .eq (IntOp.andi (IntOp.ctpop (IntOp.andi (BitVec.ofNat 32 i.val) (BitVec.ofNat 32 j.val))) 1#32) 1#32
    = if odd i j then 1#1 else 0#1 := by decide

/-- An entry of the signed matrix. -/
theorem hm_apply (x1 : Vec Ideal S16 .f32) (i j : Fin 16) : hm (F := Ideal) x1 (ix2 i j)
    = ((Ideal.ofBits FTy.f32 0x3E800000#32 : EReal) * ((sg i j : ℝ) : EReal)) * x1 (ix1 j) := by
  unfold hm
  pointwise
  rw [sign_words]
  refine congrArg (fun z : EReal => Ideal.ofBits FTy.f32 1048576000#32 * z * x1 (ix1 j)) ?_
  unfold sg
  cases odd i j
  · show (1 : EReal) = ((1 : ℝ) : EReal)
    exact EReal.coe_one.symm
  · show Ideal.ofBits FTy.f32 3212836864#32 = ((-1 : ℝ) : EReal)
    simp [Ideal.ofBits, Ideal.ieee]
    rw [← EReal.coe_mul]
    norm_num

/-- An entry of the block scales before their cast. -/
theorem scales_apply (a : Vec Ideal S14336x768 .f32) (x2 : Vec Ideal S1 .f32) (o : Fin 14336) (k : Fin 768) : scales (F := Ideal) a x2 (ix2 o k)
    = min (Ideal.ofBits FTy.f32 0x43E00000#32 : EReal) (max 0 (Ideal.div (a (ix2 o k) * Ideal.ofBits FTy.f32 0x3F800800#32) (Ideal.ofBits FTy.f32 0x40C00000#32 * x2 (ix1 0)))) := by
  unfold scales
  pointwise

/-- An entry of the transformed array is a sum of 16 products. -/
theorem zz_apply (x0 : Vec Ideal S12288x14336 .bf16) (x1 : Vec Ideal S16 .f32) (k : Fin 768) (o : Fin 14336) (i : Fin 16) :
    zz (F := Ideal) x0 x1 (ix3 k o i) = ∑ j : Fin 16, (x0 (ix2 ⟨16 * k.val + j.val, by omega⟩ o) : EReal) * hm (F := Ideal) x1 (ix2 i j) := by
  unfold zz
  generalize hm (F := Ideal) x1 = w
  pointwise
  simp only [Nat.mul_comm k.val 16]

/-- What bounds the largest absolute value of a block. -/
theorem amax_le (x0 : Vec Ideal S12288x14336 .bf16) (x1 : Vec Ideal S16 .f32) (o : Fin 14336) (k : Fin 768) (y : EReal) :
    amax (F := Ideal) x0 x1 (ix2 o k) ≤ y ↔ ∀ i : Fin 16, absE (zz (F := Ideal) x0 x1 (ix3 k o i)) ≤ y := by
  unfold amax
  generalize zz (F := Ideal) x0 x1 = w
  pointwise
  rw [neg_inf, Finset.fold_max_le]
  exact ⟨fun hh b => hh.2 b (Finset.mem_univ b), fun hh => ⟨bot_le, fun b _ => hh b⟩⟩
end Cert.DyBlkRefIdeal.Hand
-- ==== Proof.DyBlkValue.lean ====
/- The value of the block scales: the array the call leaves is the reference's, when the global scale is positive.
   Hand-written, untrusted. -/
module

public import proofs.«01_k».proof.Defs
public import proofs.«01_k».proof.Proof.Gen.DyBlk.Frame
public import proofs.«01_k».proof.Proof.Gen.Pre_dy_scale_positive
public import Idealize.ShloMosaic.Lib.Bf16Pair
public import proofs.«01_k».proof.Proof.DyBlkKernel
public import proofs.«01_k».proof.Proof.DyBlkRef

@[expose] public section

set_option maxRecDepth 16384

noncomputable section

open Idealize.ShloMosaic Idealize.ShloMosaic.TcCoe Idealize.SL.Sem
open scoped BigOperators

namespace Cert.DyBlkIdeal.Hand

open Cert.DyBlkIdeal Cert.DyBlkIdeal.Gen Cert.DyBlkIdeal.Value Cert.Butterfly

section AnyF
variable {F : FTy → Type} [FloatOps F]

/-- The tile of signs as the host operations before the call build it. -/
def tile (x1 : (⟨S16, .f32⟩ : BufTy).Contents (Elt F)) : Vec F S128x128 .bf16 :=
  broadcastInDim S128x128 ![0, 1] bcast_S128x1_S128x128_0_1
    (shapeCast S128x1 (broadcastInDim S8x8x2 ![0, 1, 2] bcast_S8x1x2_S8x8x2_0_1_2 (shapeCast S8x1x2 (shapeCast S8x2
      (truncf .bf16 (mulf (broadcastInDim S16 ![] bcast_S_S16 (constant S_ .f32 0x3E800000#32)) x1 : Vec F S16 .f32) bitsLt_bf16_f32) shapeCasts_S16_S8x2) shapeCasts_S8x2_S8x1x2)) shapeCasts_S8x8x2_S128x1)

/-- The tile of signs the call finds. -/
theorem V_v7 (m : (ℓ : Loc nD τ sig) → Buf (Elt F) ℓ) (c : Dev nD) : (V m c main_v7 : Vec F S128x128 .bf16) = tile (m ((c : Thread nD τ).loc main_arg1)) := by
  rfl

end AnyF

/-- The value at an even place: an even row of the pair times its sign. -/
theorem pay7_apply (v : Vec Ideal S8x2x128 .bf16) (w : Vec Ideal S16x128 .bf16) (r : Fin 8) (l : Fin 128) :
    k0_pay7 (F := Ideal) v w (ix2 r l) = (v (ix3 r 0 l) : EReal) * w (ix2 ⟨2 * r.val, by omega⟩ l) := by
  unfold_payloads
  pointwise
  rw [if_pos (by omega)]
  refine congrArg (fun z : EReal => z * w (ix2 ⟨2 * r.val, by omega⟩ l)) (congrArg (fun k : Fin 8 => (v (ix3 k 0 l) : EReal)) (Fin.ext ?_))
  show 2 * r.val / 2 = r.val
  omega

/-- The value at an odd place: an odd row of the pair times its sign. -/
theorem pay8_apply (v : Vec Ideal S8x2x128 .bf16) (w : Vec Ideal S16x128 .bf16) (r : Fin 8) (l : Fin 128) :
    k0_pay8 (F := Ideal) v w (ix2 r l) = (v (ix3 r 1 l) : EReal) * w (ix2 ⟨2 * r.val + 1, by omega⟩ l) := by
  unfold_payloads
  pointwise
  rw [if_neg (by omega)]
  refine congrArg (fun z : EReal => z * w (ix2 ⟨2 * r.val + 1, by omega⟩ l)) (congrArg (fun k : Fin 8 => (v (ix3 k 1 l) : EReal)) (Fin.ext ?_))
  show (2 * r.val + 1) / 2 = r.val
  omega

/-- The rounds of vectors, entry by entry. -/
theorem bfV_apply (Y : Fin 16 → FVec Ideal S8x128 .f32) (x : S8x128.Idx) : ∀ (n : ℕ) (i : Fin 16),
    bfV (F := Ideal) Y n i x = bf (fun j => (Y j x : EReal)) n i
  | 0, i => rfl
  | n + 1, i => by
    unfold bfV bf
    rw [← bfV_apply Y x n i, ← bfV_apply Y x n _]
    cases i.val.testBit n <;> rfl

/-- A block scale of a unit, from the largest of the 16 absolute values. -/
theorem unitS_apply (g : EReal) (z : Fin 16 → FVec Ideal S8x128 .f32) (r : Fin 8) (l : Fin 128) (A : EReal)
    (hA : ∀ y, A ≤ y ↔ ∀ i, absE (z i (ix2 r l)) ≤ y) :
    unitS (F := Ideal) g z (ix2 r l) = min (Ideal.div (A * Ideal.ofBits FTy.f32 0x3F800800#32) (Ideal.ofBits FTy.f32 0x40C00000#32 * g)) (Ideal.ofBits FTy.f32 0x43E00000#32 : EReal) := by
  unfold unitS
  unfold_payloads
  pointwise
  have e : ∀ z : EReal, FloatOps.absf (F := Ideal) (φ := .f32) z = absE z := fun _ => rfl
  simp only [e]
  refine congrArg (fun a : EReal => min (Ideal.div (a * Ideal.ofBits FTy.f32 1065355264#32) (Ideal.ofBits FTy.f32 1086324736#32 * g)) (Ideal.ofBits FTy.f32 1138753536#32)) ?_
  refine eq_of_forall_ge_iff fun y => ?_
  rw [hA]
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ i
    fin_cases i <;> assumption
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

/-- The block written out is the scratch transposed. -/
theorem pay5_apply (G : Vec Ideal S128x128 .f32) (l k : Fin 128) : k0_pay5 (F := Ideal) G (ix2 l k) = G (ix2 k l) := by
  unfold_payloads
  pointwise

/-- A signed value of a unit, entry by entry. -/
theorem Yv_apply (R : Fin 8 → Vec Ideal S8x2x128 .bf16) (T : Fin 8 → Vec Ideal S16x128 .bf16) (j : Fin 16) (r : Fin 8) (l : Fin 128) :
    Yv (F := Ideal) R T j (ix2 r l) = (R ⟨j.val / 2, by omega⟩ (ix3 r ⟨j.val % 2, by omega⟩ l) : EReal) * T ⟨j.val / 2, by omega⟩ (ix2 ⟨2 * r.val + j.val % 2, by omega⟩ l) := by
  have h : j.val.testBit 0 = decide (j.val % 2 = 1) := Nat.testBit_zero _
  unfold Yv
  rw [h]
  rcases Nat.mod_two_eq_zero_or_one j.val with h0 | h1
  · rw [decide_eq_false (by omega)]
    refine (pay7_apply _ _ r l).trans ?_
    refine congrArg₂ (fun (a b : EReal) => a * b) (congrArg (fun k : Fin 2 => (R ⟨j.val / 2, by omega⟩ (ix3 r k l) : EReal)) (Fin.ext h0.symm))
      (congrArg (fun k : Fin 16 => (T ⟨j.val / 2, by omega⟩ (ix2 k l) : EReal)) (Fin.ext ?_))
    show 2 * r.val = 2 * r.val + j.val % 2
    omega
  · rw [decide_eq_true h1]
    refine (pay8_apply _ _ r l).trans ?_
    refine congrArg₂ (fun (a b : EReal) => a * b) (congrArg (fun k : Fin 2 => (R ⟨j.val / 2, by omega⟩ (ix3 r k l) : EReal)) (Fin.ext h1.symm))
      (congrArg (fun k : Fin 16 => (T ⟨j.val / 2, by omega⟩ (ix2 k l) : EReal)) (Fin.ext ?_))
    show 2 * r.val + 1 = 2 * r.val + j.val % 2
    omega

/-- The block scale of 16 signed values. -/
def scaleOf (g : EReal) (x : Fin 16 → EReal) : EReal :=
  min (Ideal.div ((Finset.univ.sup fun i : Fin 16 => absE (bf x 4 i)) * Ideal.ofBits FTy.f32 0x3F800800#32) (Ideal.ofBits FTy.f32 0x40C00000#32 * g)) (Ideal.ofBits FTy.f32 0x43E00000#32 : EReal)

/-- An entry of the scratch: the block scale of 16 rows under their signs. -/
theorem G_apply (g : EReal) (x1 : Vec Ideal S128x128 .bf16) (x2 : Vec Ideal S2048x128 .bf16) (k l : Fin 128) :
    G (F := Ideal) g x1 x2 (ix2 k l) = scaleOf g fun j => (x2 (ix2 ⟨16 * k.val + j.val, by omega⟩ l) : EReal)
      * x1 (ix2 ⟨16 * (j.val / 2) + 2 * (k.val % 8) + j.val % 2, by omega⟩ l) := by
  have hk := k.isLt
  unfold G
  refine (unitS_apply g _ _ _ (Finset.univ.sup fun i : Fin 16 => absE (bf (fun j => (x2 (ix2 ⟨16 * k.val + j.val, by omega⟩ l) : EReal)
      * x1 (ix2 ⟨16 * (j.val / 2) + 2 * (k.val % 8) + j.val % 2, by omega⟩ l)) 4 i)) fun y => ?_)
  simp only [Finset.sup_le_iff, Finset.mem_univ, forall_true_left]
  refine forall_congr' fun i => ?_
  rw [bfV_apply]
  refine iff_of_eq (congrArg (fun f => absE (bf f 4 i) ≤ y) (funext fun j => ?_))
  refine Eq.trans ?_ (Yv_apply _ _ j _ _).symm
  unfold Rx Tx
  have hj := j.isLt
  refine congrArg₂ (fun (a b : EReal) => a * b) (congrArg (fun r : Fin 2048 => (x2 (ix2 r l) : EReal)) (Fin.ext ?_)) (congrArg (fun r : Fin 128 => (x1 (ix2 r l) : EReal)) (Fin.ext ?_))
  · show 16 * k.val + j.val = 16 * (8 * (k.val / 8) + k.val % 8) + 2 * (j.val / 2) + j.val % 2
    omega
  · show 16 * (j.val / 2) + 2 * (k.val % 8) + j.val % 2 = 16 * (j.val / 2) + (2 * (k.val % 8) + j.val % 2)
    omega

variable (m : (ℓ : Loc nD τ sig) → Buf (Elt Ideal) ℓ)

/-- An entry of the tile of signs. -/
theorem tile_apply (w : Vec Ideal S16 .f32) (j : Fin 16) (r : Fin 8) (l : Fin 128) : (tile (F := Ideal) w (ix2 ⟨16 * (j.val / 2) + 2 * r.val + j.val % 2, by omega⟩ l) : EReal)
    = (Ideal.ofBits FTy.f32 0x3E800000#32 : EReal) * w (ix1 j) := by
  unfold tile
  pointwise

/-- The printed index maps over the 672 points. -/
theorem idx_facts : ∀ t : Fin grid0.N, (win0_1.index t 0 = 0 ∧ win0_1.index t 1 = 0) ∧ (win0_2.index t 0 = t.val % 6 ∧ win0_2.index t 1 = t.val / 6)
    ∧ (win0_5.index t 0 = t.val / 6 ∧ win0_5.index t 1 = t.val % 6) := by decide +kernel

/-- The tile of signs is the same at every point. -/
theorem iblk1 (c : Dev nD) (t : Fin cfg0.N) (r l : Fin 128) :
    (iblk m c 1 t : Vec Ideal S128x128 .bf16) (ix2 r l) = (V m c main_v7 : Vec Ideal S128x128 .bf16) (ix2 r l) := by
  obtain ⟨⟨e0, e1⟩, _⟩ := idx_facts t
  unfold iblk
  rw [View.read_apply]
  show V m c main_v7 _ = V m c main_v7 _
  congr 1
  funext a
  apply Fin.ext
  match a with
  | ⟨0, _⟩ => show win0_1.index t 0 * 128 + 1 * r.val = r.val; rw [e0]; omega
  | ⟨1, _⟩ => show win0_1.index t 1 * 128 + 1 * l.val = l.val; rw [e1]; omega

/-- The block of rows at a point. -/
theorem iblk2 (c : Dev nD) (t : Fin cfg0.N) (r : Fin 2048) (l : Fin 128) (R : Fin 12288) (q : Fin 14336) (hR : R.val = 2048 * (t.val % 6) + r.val) (hq : q.val = 128 * (t.val / 6) + l.val) :
    (iblk m c 2 t : Vec Ideal S2048x128 .bf16) (ix2 r l) = (m ((c : Thread nD τ).loc main_arg0) : Vec Ideal S12288x14336 .bf16) (ix2 R q) := by
  obtain ⟨_, ⟨e0, e1⟩, _⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_2.index t 0 * 2048 + 1 * r.val = R.val; rw [e0]; omega
  | ⟨1, _⟩ => show win0_2.index t 1 * 128 + 1 * l.val = q.val; rw [e1]; omega

/-- The scalar every point reads is the one entry of the last argument. -/
theorem gl_eq (c : Dev nD) (t : Fin cfg0.N) : gl (F := Ideal) (ms0_0 t) (hs0_0 t) (iblk m c 0 t) = (m ((c : Thread nD τ).loc main_arg2) : Vec Ideal S1 .f32) (ix1 0) := by
  unfold gl
  rw [(hs0_0 t).readAt_unread]
  unfold iblk
  show V m c main_arg2 _ = m ((c : Thread nD τ).loc main_arg2) _
  rw [V_main_arg2]
  congr 1
  funext a
  apply Fin.ext
  match a with
  | ⟨0, _⟩ => rfl

/-- The array of block scales the call leaves. -/
def target (x0 : S12288x14336.Idx → EReal) (x1 : S16.Idx → EReal) (x2 : S1.Idx → EReal) : S14336x768.Idx → EReal := fun y =>
  scaleOf (x2 (ix1 0)) fun j => x0 (ix2 ⟨16 * (y 1).val + j.val, by
      have h1 : (y 1).val < 768 := (y 1).isLt
      omega⟩ (y 0)) * ((Ideal.ofBits FTy.f32 0x3E800000#32 : EReal) * x1 (ix1 j))

/-- The result array. -/
theorem final_eq (c : Dev nD) : (dats m 0 c).arrAt 5 cfg0.N = target (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 672 := lt_of_lt_of_eq t.isLt N_0
  obtain ⟨_, _, e0, e1⟩ := idx_facts t
  rw [after0_5]
  unfold outsAt0
  dsimp only
  rw [out_5]
  refine (cast_eq _ _).trans ?_
  have hy0 : (y 0).val < 128 := (y 0).isLt
  have hy1 : (y 1).val < 128 := (y 1).isLt
  have hx : (cfg0.win 5).xinj (cfg0.grid.coords t) y = (ix2 ⟨(y 0).val, hy0⟩ ⟨(y 1).val, hy1⟩ : S128x128.Idx) := by
    funext a
    apply Fin.ext
    match a with
    | ⟨0, _⟩ => rfl
    | ⟨1, _⟩ => rfl
  have he0 : (((cfg0.win 5).blk t).view.emb y 0).val = 128 * (t.val / 6) + (y 0).val := by
    show win0_5.index t 0 * 128 + 1 * (y 0).val = _
    rw [e0]; omega
  have he1 : (((cfg0.win 5).blk t).view.emb y 1).val = 128 * (t.val % 6) + (y 1).val := by
    show win0_5.index t 1 * 128 + 1 * (y 1).val = _
    rw [e1]; omega
  refine (congrArg _ hx).trans ?_
  refine (pay5_apply _ _ _).trans ?_
  refine (G_apply _ _ _ _ _).trans ?_
  unfold target
  rw [gl_eq]
  refine congrArg _ (funext fun j => ?_)
  refine congrArg₂ (fun (a b : EReal) => a * b) (iblk2 m c t _ _ _ _ ?_ ?_) ((iblk1 m c t _ _).trans ((congrFun (V_v7 m c) _).trans (tile_apply _ j ⟨(y 1).val % 8, by omega⟩ _)))
  · show 16 * (((cfg0.win 5).blk t).view.emb y 1).val + j.val = 2048 * (t.val % 6) + (16 * (y 1).val + j.val)
    rw [he1]; omega
  · exact he0

end Cert.DyBlkIdeal.Hand

namespace Cert.DyBlkRefIdeal.Hand

open Cert.DyBlkRefIdeal Cert.DyBlkRefIdeal.Gen Cert.DyBlkRefIdeal.Value

variable (m : (ℓ : Loc nD τ sig) → Buf (Elt Ideal) ℓ)

/-- The printed index maps of the one point. -/
theorem idx_facts : ∀ t : Fin grid0.N, (win0_0.index t 0 = 0 ∧ win0_0.index t 1 = 0) ∧ (win0_1.index t 0 = 0 ∧ win0_1.index t 1 = 0) := by decide +kernel

/-- The array the reference's last call leaves is the one it finds. -/
theorem final_eq (c : Dev nD) : (dats m 0 c).arrAt 1 cfg0.N
    = scales (F := Ideal) (amax (m ((c : Thread nD τ).loc main_arg0)) (m ((c : Thread nD τ).loc main_arg1))) (m ((c : Thread nD τ).loc main_arg2)) := by
  refine (dats m 0 c).arrAt_eq_of_covers 1 _ (by decide +kernel) fun t hf y => ?_
  obtain ⟨⟨e0, e1⟩, e2, e3⟩ := idx_facts t
  rw [after0_1]
  unfold out0_1
  refine (cast_eq _ _).trans ?_
  refine (canon1_eq (F := Ideal) _ _).trans ?_
  rw [← V_v30]
  unfold iblk
  show V m c main_v30 _ = V m c main_v30 _
  congr 1
  funext a
  apply Fin.ext
  match a with
  | ⟨0, _⟩ => show win0_0.index t 0 * 14336 + 1 * (0 + 1 * (y 0).val) = win0_1.index t 0 * 14336 + 1 * (y 0).val; rw [e0, e2]; omega
  | ⟨1, _⟩ => show win0_0.index t 1 * 768 + 1 * (0 + 1 * (y 1).val) = win0_1.index t 1 * 768 + 1 * (y 1).val; rw [e1, e3]; omega

end Cert.DyBlkRefIdeal.Hand

namespace Cert.DyBlkClaims

open Cert.Butterfly

/-- The word of the factor before the division is not negative. -/
theorem nudge_nonneg : (0 : EReal) ≤ Ideal.ofBits FTy.f32 0x3F800800#32 := by
  simp [Ideal.ofBits, Ideal.ieee]
  rw [← EReal.coe_mul]
  exact EReal.coe_nonneg.mpr (by norm_num)

/-- The word 6 is positive. -/
theorem six_pos : (0 : EReal) < Ideal.ofBits FTy.f32 0x40C00000#32 := by
  simp [Ideal.ofBits, Ideal.ieee]
  rw [← EReal.coe_mul]
  exact EReal.coe_pos.mpr (by norm_num)

/-- The word 448 is not negative. -/
theorem top_nonneg : (0 : EReal) ≤ Ideal.ofBits FTy.f32 0x43E00000#32 := by
  simp [Ideal.ofBits, Ideal.ieee]
  rw [← EReal.coe_mul]
  exact EReal.coe_nonneg.mpr (by norm_num)

/-- An absolute value is not negative. -/
theorem absE_nonneg (z : EReal) : 0 ≤ absE z := by
  rcases le_total 0 z with h | h
  · exact le_trans h (le_max_left _ _)
  · exact le_trans (EReal.neg_nonneg.mpr h) (le_max_right _ _)

/-- For a positive scale the reference's array is the call's. -/
theorem ref_eq (x0 : Vec Ideal Cert.DyBlkRefIdeal.S12288x14336 .bf16) (x1 : Vec Ideal Cert.DyBlkRefIdeal.S16 .f32) (x2 : Vec Ideal Cert.DyBlkRefIdeal.S1 .f32)
    (hg : (0 : EReal) < x2 (ix1 0)) (y : Cert.DyBlkRefIdeal.S14336x768.Idx) :
    Cert.DyBlkRefIdeal.Hand.scales (F := Ideal) (Cert.DyBlkRefIdeal.Hand.amax x0 x1) x2 y = Cert.DyBlkIdeal.Hand.target x0 x1 x2 y := by
  obtain ⟨o, k, rfl⟩ : ∃ (o : Fin 14336) (k : Fin 768), y = ix2 o k := ⟨y 0, y 1, by
    funext a
    match a with
    | ⟨0, _⟩ => rfl
    | ⟨1, _⟩ => rfl⟩
  rw [Cert.DyBlkRefIdeal.Hand.scales_apply]
  unfold Cert.DyBlkIdeal.Hand.target Cert.DyBlkIdeal.Hand.scaleOf
  have hz : ∀ i : Fin 16, absE (Cert.DyBlkRefIdeal.Hand.zz (F := Ideal) x0 x1 (ix3 k o i))
      = absE (bf (fun j : Fin 16 => (x0 (ix2 ⟨16 * k.val + j.val, by omega⟩ o) : EReal) * ((Ideal.ofBits FTy.f32 0x3E800000#32 : EReal) * x1 (ix1 j))) 4 i) := fun i => by
    rw [abs_bf, Cert.DyBlkRefIdeal.Hand.zz_apply]
    refine congrArg absE (Finset.sum_congr rfl fun j _ => ?_)
    rw [Cert.DyBlkRefIdeal.Hand.hm_apply]
    generalize (x0 (ix2 ⟨16 * k.val + j.val, _⟩ o) : EReal) = a
    generalize (x1 (ix1 j) : EReal) = b
    generalize ((sg i j : ℝ) : EReal) = s
    generalize (Ideal.ofBits FTy.f32 0x3E800000#32 : EReal) = q
    rw [mul_left_comm s a, mul_comm q s, mul_assoc s q b]
  have hA : (Cert.DyBlkRefIdeal.Hand.amax (F := Ideal) x0 x1 (ix2 o k) : EReal)
      = Finset.univ.sup fun i : Fin 16 => absE (bf (fun j : Fin 16 => (x0 (ix2 ⟨16 * k.val + j.val, by omega⟩ o) : EReal) * ((Ideal.ofBits FTy.f32 0x3E800000#32 : EReal) * x1 (ix1 j))) 4 i) := by
    refine eq_of_forall_ge_iff fun z => ?_
    rw [Cert.DyBlkRefIdeal.Hand.amax_le]
    simp only [Finset.sup_le_iff, Finset.mem_univ, forall_true_left]
    exact forall_congr' fun i => by rw [hz i]
  have h0 : (0 : EReal) ≤ Cert.DyBlkRefIdeal.Hand.amax (F := Ideal) x0 x1 (ix2 o k) :=
    le_trans (absE_nonneg _) ((Cert.DyBlkRefIdeal.Hand.amax_le x0 x1 o k _).mp le_rfl 0)
  refine Eq.trans ?_ (congrArg (fun a : EReal => min (Ideal.div (a * Ideal.ofBits FTy.f32 0x3F800800#32) (Ideal.ofBits FTy.f32 0x40C00000#32 * x2 (ix1 0))) (Ideal.ofBits FTy.f32 0x43E00000#32 : EReal)) hA)
  rw [min_comm, max_eq_right]
  have hd : (0 : EReal) < Ideal.ofBits FTy.f32 0x40C00000#32 * x2 (ix1 0) := EReal.mul_pos six_pos hg
  unfold Ideal.div
  rw [if_neg hd.ne']
  exact mul_nonneg (mul_nonneg h0 nudge_nonneg) (EReal.inv_nonneg_of_nonneg hd.le)

/-- What the stated condition says of the scale. -/
theorem pos_of_pre (x0 : Vec Ideal Cert.DyBlkRefIdeal.S12288x14336 .bf16) (x1 : Vec Ideal Cert.DyBlkRefIdeal.S16 .f32) (x2 : Vec Ideal Cert.DyBlkRefIdeal.S1 .f32)
    (x3 : IVec Cert.Pre_dy_scale_positive.S12288x14336 32) (h : Cert.Pre_dy_scale_positive.fn (F := Ideal) x0 x1 x2 x3 = fun _ => 1#1) : (0 : EReal) < x2 (ix1 0) := by
  have h1 := congrFun h (ix1 0)
  revert h1
  unfold Cert.Pre_dy_scale_positive.fn
  pointwise
  intro h1
  by_contra hn
  rw [decide_eq_false hn] at h1
  exact absurd h1 (by decide)

/-- The call on the operand leaves the reference's block scales, over the extended reals, when the global scale is positive. -/
theorem algebraic : Cert.algebraic_DyBlkIdeal_DyBlkRefIdeal_pre_dy_scale_positive := by
  intro m ρ m' ρ' hpre hagree
  refine ⟨fun c => (Cert.DyBlkIdeal.Gen.dats m 0 c).arrAt 5 Cert.DyBlkIdeal.cfg0.N,
    (θ_run Cert.DyBlkIdeal.defs _ _).mono (fun r h c => ⟨(h c).2.1, (h c).2.2.2⟩) (Cert.DyBlkIdeal.Value.run_blocks (F := Ideal) m ρ), ?_⟩
  refine (θ_run Cert.DyBlkRefIdeal.defs _ _).mono (fun r h c => ?_) (Cert.DyBlkRefIdeal.Value.run_blocks (F := Ideal) m' ρ')
  obtain ⟨h0, h1, h2, _⟩ := hagree c
  refine ⟨(h c).1.trans ?_, (h c).2⟩
  beta_reduce
  rw [Cert.DyBlkRefIdeal.Hand.final_eq, Cert.DyBlkIdeal.Hand.final_eq, h0, h1, h2]
  exact funext fun y => ref_eq _ _ _ (pos_of_pre _ _ _ _ (hpre c)) y

/-- The kernel as written runs to the end with its arguments unchanged and every semaphore back at zero. -/
theorem frame : Cert.quiescent_DyBlk := fun m ρ _ => Cert.DyBlk.Gen.frame m ρ

/-- So does the kernel over the extended reals. -/
theorem frameI : Cert.quiescent_DyBlkIdeal := fun m ρ _ => Cert.DyBlkIdeal.Gen.frame m ρ

/-- So does it under the stated condition. -/
theorem frameI_pre : Cert.quiescent_DyBlkIdeal_pre_dy_scale_positive := fun m ρ _ => Cert.DyBlkIdeal.Gen.frame m ρ

/-- So does the reference over them. -/
theorem frameR : Cert.quiescent_DyBlkRefIdeal := fun m ρ _ => Cert.DyBlkRefIdeal.Gen.frame m ρ

/-- So does the reference under the stated condition. -/
theorem frameR_pre : Cert.quiescent_DyBlkRefIdeal_pre_dy_scale_positive := fun m ρ _ => Cert.DyBlkRefIdeal.Gen.frame m ρ

/-- Each rewrite of the bits of a pair of bf16 numbers computes what was there. -/
theorem preserves : Cert.preserves_DyBlk_DyBlkIdeal := ⟨IdealRules.bf16_pair.statement _ _, IdealRules.bf16_pair.statement _ _⟩

end Cert.DyBlkClaims
-- ==== Proof.lean ====
module

public import proofs.«01_k».proof.Defs
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradRefIdeal
public import proofs.«01_k».proof.Proof.Gen.DyScale
public import proofs.«01_k».proof.Proof.Gen.DyScale.Skeleton
public import proofs.«01_k».proof.Proof.Gen.DyScale.Launch
public import proofs.«01_k».proof.Proof.Gen.DyScale.Points
public import proofs.«01_k».proof.Proof.Gen.DyScale.Frame
public import proofs.«01_k».proof.Proof.Gen.DyScaleIdeal
public import proofs.«01_k».proof.Proof.Gen.DyScaleIdeal.Skeleton
public import proofs.«01_k».proof.Proof.Gen.DyScaleIdeal.Launch
public import proofs.«01_k».proof.Proof.Gen.DyScaleIdeal.Points
public import proofs.«01_k».proof.Proof.Gen.DyScaleIdeal.Frame
public import proofs.«01_k».proof.Proof.Gen.DyScaleRefIdeal
public import proofs.«01_k».proof.Proof.Gen.XScale
public import proofs.«01_k».proof.Proof.Gen.XScale.Skeleton
public import proofs.«01_k».proof.Proof.Gen.XScale.Launch
public import proofs.«01_k».proof.Proof.Gen.XScale.Points
public import proofs.«01_k».proof.Proof.Gen.XScale.Frame
public import proofs.«01_k».proof.Proof.Gen.XScaleIdeal
public import proofs.«01_k».proof.Proof.Gen.XScaleIdeal.Skeleton
public import proofs.«01_k».proof.Proof.Gen.XScaleIdeal.Launch
public import proofs.«01_k».proof.Proof.Gen.XScaleIdeal.Points
public import proofs.«01_k».proof.Proof.Gen.XScaleIdeal.Frame
public import proofs.«01_k».proof.Proof.Gen.XScaleRefIdeal
public import proofs.«01_k».proof.Proof.Gen.QuantSr.Frame
public import proofs.«01_k».proof.Proof.Gen.QuantRn.Frame
public import proofs.«01_k».proof.Proof.Gen.WgradIdeal.Value
public import proofs.«01_k».proof.Proof.Gen.DyScaleIdeal.Value
public import proofs.«01_k».proof.Proof.Gen.XScaleIdeal.Value
public import proofs.«01_k».proof.Proof.Gen.WgradRefIdeal.Run
public import proofs.«01_k».proof.Proof.Gen.WgradRefIdeal.Read
public import proofs.«01_k».proof.Proof.Gen.DyScaleRefIdeal.Run
public import proofs.«01_k».proof.Proof.Gen.DyScaleRefIdeal.Read
public import proofs.«01_k».proof.Proof.Gen.XScaleRefIdeal.Run
public import proofs.«01_k».proof.Proof.Gen.XScaleRefIdeal.Read
public import proofs.«01_k».proof.Proof.Gen.XBlk
public import proofs.«01_k».proof.Proof.Gen.XBlk.Skeleton
public import proofs.«01_k».proof.Proof.Gen.XBlk.Launch
public import proofs.«01_k».proof.Proof.Gen.XBlk.Points
public import proofs.«01_k».proof.Proof.Gen.XBlk.Frame
public import proofs.«01_k».proof.Proof.Gen.XBlkIdeal
public import proofs.«01_k».proof.Proof.Gen.XBlkIdeal.Skeleton
public import proofs.«01_k».proof.Proof.Gen.XBlkIdeal.Launch
public import proofs.«01_k».proof.Proof.Gen.XBlkIdeal.Points
public import proofs.«01_k».proof.Proof.Gen.XBlkIdeal.Frame
public import proofs.«01_k».proof.Proof.Gen.XBlkRefIdeal
public import proofs.«01_k».proof.Proof.Gen.XBlkRefIdeal.Skeleton
public import proofs.«01_k».proof.Proof.Gen.XBlkRefIdeal.Launch
public import proofs.«01_k».proof.Proof.Gen.XBlkRefIdeal.Points
public import proofs.«01_k».proof.Proof.Gen.XBlkRefIdeal.Frame
public import proofs.«01_k».proof.Proof.Gen.XBlkIdeal.Value
public import proofs.«01_k».proof.Proof.Gen.XBlkRefIdeal.Value
public import proofs.«01_k».proof.Proof.Gen.DyBlk
public import proofs.«01_k».proof.Proof.Gen.DyBlk.Skeleton
public import proofs.«01_k».proof.Proof.Gen.DyBlk.Launch
public import proofs.«01_k».proof.Proof.Gen.DyBlk.Points
public import proofs.«01_k».proof.Proof.Gen.DyBlk.Frame
public import proofs.«01_k».proof.Proof.Gen.DyBlkIdeal
public import proofs.«01_k».proof.Proof.Gen.DyBlkIdeal.Skeleton
public import proofs.«01_k».proof.Proof.Gen.DyBlkIdeal.Launch
public import proofs.«01_k».proof.Proof.Gen.DyBlkIdeal.Points
public import proofs.«01_k».proof.Proof.Gen.DyBlkIdeal.Frame
public import proofs.«01_k».proof.Proof.Gen.DyBlkRefIdeal
public import proofs.«01_k».proof.Proof.Gen.DyBlkRefIdeal.Skeleton
public import proofs.«01_k».proof.Proof.Gen.DyBlkRefIdeal.Launch
public import proofs.«01_k».proof.Proof.Gen.DyBlkRefIdeal.Points
public import proofs.«01_k».proof.Proof.Gen.DyBlkRefIdeal.Frame
public import proofs.«01_k».proof.Proof.Gen.DyBlkIdeal.Value
public import proofs.«01_k».proof.Proof.Gen.DyBlkRefIdeal.Value
public import proofs.«01_k».proof.Proof.Gen.Pre_x_scale_positive
public import proofs.«01_k».proof.Proof.Gen.Pre_dy_scale_positive
public import proofs.«01_k».proof.Proof.WgradValue
public import proofs.«01_k».proof.Proof.DyScaleValue
public import proofs.«01_k».proof.Proof.XScaleValue
public import proofs.«01_k».proof.Proof.XBlkValue
public import proofs.«01_k».proof.Proof.DyBlkValue
public import Idealize.ShloMosaic.Adequacy
public import Idealize.ShloMosaic.Init
public import Idealize.ShloMosaic.Lib.Quiescent

@[expose] public section

noncomputable section

namespace Cert.Proof

open Idealize.ShloMosaic Idealize.SL.Sem

/-- Every claim of this certificate. -/
theorem claim : Cert.Claim := ⟨Cert.Wgrad.Gen.facts, Cert.WgradIdeal.Gen.facts, Cert.WgradRefIdeal.Gen.facts,
  Cert.DyScale.Gen.facts, Cert.DyScaleIdeal.Gen.facts, Cert.DyScaleRefIdeal.Gen.facts,
  Cert.XScale.Gen.facts, Cert.XScaleIdeal.Gen.facts, Cert.XScaleRefIdeal.Gen.facts,
  Cert.QuantSr.Gen.facts, Cert.QuantRn.Gen.facts,
  Cert.XBlk.Gen.facts, Cert.XBlkIdeal.Gen.facts, Cert.XBlkRefIdeal.Gen.facts,
  Cert.DyBlk.Gen.facts, Cert.DyBlkIdeal.Gen.facts, Cert.DyBlkRefIdeal.Gen.facts,
  Cert.Pre_x_scale_positive.Gen.facts, Cert.Pre_dy_scale_positive.Gen.facts,
  Cert.WgradClaims.frame, Cert.WgradClaims.frameI, Cert.WgradClaims.frameR,
  Cert.DyScaleClaims.frame, Cert.DyScaleClaims.frameI, Cert.DyScaleClaims.frameR,
  Cert.XScaleClaims.frame, Cert.XScaleClaims.frameI, Cert.XScaleClaims.frameR,
  fun m ρ _ => Cert.QuantSr.Gen.frame m ρ, fun m ρ _ => Cert.QuantRn.Gen.frame m ρ,
  Cert.XBlkClaims.frame, Cert.XBlkClaims.frameI, Cert.XBlkClaims.frameI_pre, Cert.XBlkClaims.frameR, Cert.XBlkClaims.frameR_pre,
  Cert.DyBlkClaims.frame, Cert.DyBlkClaims.frameI, Cert.DyBlkClaims.frameI_pre, Cert.DyBlkClaims.frameR, Cert.DyBlkClaims.frameR_pre,
  trivial, Cert.WgradClaims.algebraic, trivial, Cert.DyScaleClaims.algebraic, trivial, Cert.XScaleClaims.algebraic,
  Cert.XBlkClaims.preserves, Cert.XBlkClaims.algebraic, Cert.DyBlkClaims.preserves, Cert.DyBlkClaims.algebraic⟩

end Cert.Proof

end
